-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S1 : Shape := ⟨1, ![1]⟩
abbrev S1x1 : Shape := ⟨2, ![1, 1]⟩
abbrev S2x256x2048 : Shape := ⟨3, ![2, 256, 2048]⟩
abbrev S2 : Shape := ⟨1, ![2]⟩
abbrev S_ : Shape := ⟨0, ![]⟩
abbrev S256x256 : Shape := ⟨2, ![256, 256]⟩
abbrev S256x2048 : Shape := ⟨2, ![256, 2048]⟩
abbrev S1x256x2048 : Shape := ⟨3, ![1, 256, 2048]⟩

abbrev nBuf : Space → Nat
  | .hbm => 7
  | .vmem => 11
  | .smem => 1
  | _ => 0

abbrev bufTy : (tb : Table) → Fin (tcTables nBuf tb) → BufTy
  | .hbm, ⟨0, _⟩ => ⟨S4096x256, .i8⟩
  | .hbm, ⟨1, _⟩ => ⟨S256x8192, .i8⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S1x1, .f32⟩
  | .hbm, ⟨6, _⟩ => ⟨S256x8192, .f32⟩
  | .local _ .vmem, ⟨0, _⟩ => ⟨S4096x256, .i8⟩
  | .local _ .vmem, ⟨1, _⟩ => ⟨S256x8192, .i8⟩
  | .local _ .vmem, ⟨2, _⟩ => ⟨S256x8192, .f32⟩
  | .local _ .vmem, ⟨3, _⟩ => ⟨S2x256x2048, .bf16⟩
  | .local _ .vmem, ⟨4, _⟩ => ⟨S2x256x2048, .bf16⟩
  | .local _ .vmem, ⟨5, _⟩ => ⟨S2x256x2048, .bf16⟩
  | .local _ .vmem, ⟨6, _⟩ => ⟨S2x256x2048, .bf16⟩
  | .local _ .vmem, ⟨7, _⟩ => ⟨S2x256x2048, .bf16⟩
  | .local _ .vmem, ⟨8, _⟩ => ⟨S2x256x2048, .bf16⟩
  | .local _ .vmem, ⟨9, _⟩ => ⟨S2x256x2048, .bf16⟩
  | .local _ .vmem, ⟨10, _⟩ => ⟨S2x256x2048, .bf16⟩
  | .local _ .smem, ⟨0, _⟩ => ⟨S1x1, .f32⟩
  | _, _ => ⟨S4096x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 5 20 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_10 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v13 : BitVec 32 := Scalar.addi v2 c32_i32
  let v14 : BitVec 32 := Scalar.subi v13 c0_i32_10
  let c1_i32_11 : BitVec 32 := 1#32
  let v15 : BitVec 32 := Scalar.subi v14 c1_i32_11
  let c16_i32_12 : BitVec 32 := 16#32
  let v16 : BitVec 32 := Scalar.remsi v15 c16_i32_12
  let c256_i32 : BitVec 32 := 256#32
  let v17 : BitVec 32 := Scalar.muli v16 c256_i32
  let v18 : Index := Scalar.indexCast v17
  let c0 : Index := 0#32
  ![v18.toNat, 0]
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_22 : BitVec 32 := 1#32
  let v28 : BitVec 32 := Scalar.muli v7 c1_i32_22
  let v29 : BitVec 32 := Scalar.addi c0_i32_23 v28
  v29.toNat
def k0_off2 (d0 : Dev nD) (c0_i32_28 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v38 : BitVec 32 := Scalar.addi v2 c0_i32_28
  let c1_i32_29 : BitVec 32 := 1#32
  let v39 : BitVec 32 := Scalar.addi v38 c1_i32_29
  let c16_i32_30 : BitVec 32 := 16#32
  let v40 : BitVec 32 := Scalar.remsi v39 c16_i32_30
  let c256_i32_31 : BitVec 32 := 256#32
  let v41 : BitVec 32 := Scalar.muli v40 c256_i32_31
  let v42 : Index := Scalar.indexCast v41
  let c0_32 : Index := 0#32
  ![v42.toNat, 0]
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_42 : BitVec 32 := 1#32
  let v52 : BitVec 32 := Scalar.muli v5 c1_i32_42
  let v53 : BitVec 32 := Scalar.addi c0_i32_43 v52
  v53.toNat
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_63 : BitVec 32 := 1#32
  let v77 : BitVec 32 := Scalar.muli v7 c1_i32_63
  let v78 : BitVec 32 := Scalar.addi c0_i32_64 v77
  v78.toNat
def k0_dev6 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_83 : BitVec 32 := 1#32
  let v101 : BitVec 32 := Scalar.muli v5 c1_i32_83
  let v102 : BitVec 32 := Scalar.addi c0_i32_84 v101
  v102.toNat
def k0_dev7 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_139 : BitVec 32 := 1#32
  let v173 : BitVec 32 := Scalar.muli v5 c1_i32_139
  let v174 : BitVec 32 := Scalar.addi c0_i32_140 v173
  v174.toNat
def k0_dev8 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_145 : BitVec 32 := 1#32
  let v175 : BitVec 32 := Scalar.muli v7 c1_i32_145
  let v176 : BitVec 32 := Scalar.addi c0_i32_146 v175
  v176.toNat
def k0_dev9 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_168 : BitVec 32 := 1#32
  let v201 : BitVec 32 := Scalar.muli v7 c1_i32_168
  let v202 : BitVec 32 := Scalar.addi c0_i32_169 v201
  v202.toNat
def k0_dev10 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_174 : BitVec 32 := 1#32
  let v203 : BitVec 32 := Scalar.muli v5 c1_i32_174
  let v204 : BitVec 32 := Scalar.addi c0_i32_175 v203
  v204.toNat
def k0_dev11 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_197 : BitVec 32 := 1#32
  let v229 : BitVec 32 := Scalar.muli v5 c1_i32_197
  let v230 : BitVec 32 := Scalar.addi c0_i32_198 v229
  v230.toNat
def k0_dev12 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_203 : BitVec 32 := 1#32
  let v231 : BitVec 32 := Scalar.muli v7 c1_i32_203
  let v232 : BitVec 32 := Scalar.addi c0_i32_204 v231
  v232.toNat
def k0_dev13 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_226 : BitVec 32 := 1#32
  let v257 : BitVec 32 := Scalar.muli v7 c1_i32_226
  let v258 : BitVec 32 := Scalar.addi c0_i32_227 v257
  v258.toNat
def k0_dev14 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_232 : BitVec 32 := 1#32
  let v259 : BitVec 32 := Scalar.muli v5 c1_i32_232
  let v260 : BitVec 32 := Scalar.addi c0_i32_233 v259
  v260.toNat
def k0_dev15 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_300 : BitVec 32 := 1#32
  let v337 : BitVec 32 := Scalar.muli v5 c1_i32_300
  let v338 : BitVec 32 := Scalar.addi c0_i32_301 v337
  v338.toNat
def k0_dev16 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_306 : BitVec 32 := 1#32
  let v339 : BitVec 32 := Scalar.muli v7 c1_i32_306
  let v340 : BitVec 32 := Scalar.addi c0_i32_307 v339
  v340.toNat
def k0_dev17 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_340 : BitVec 32 := 1#32
  let v371 : BitVec 32 := Scalar.muli v7 c1_i32_340
  let v372 : BitVec 32 := Scalar.addi c0_i32_341 v371
  v372.toNat
def k0_dev18 (d0 : Dev nD) : Nat :=
  let c0_i32_347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_346 : BitVec 32 := 1#32
  let v373 : BitVec 32 := Scalar.muli v5 c1_i32_346
  let v374 : BitVec 32 := Scalar.addi c0_i32_347 v373
  v374.toNat
def k0_dev19 (d0 : Dev nD) : Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_380 : BitVec 32 := 1#32
  let v405 : BitVec 32 := Scalar.muli v5 c1_i32_380
  let v406 : BitVec 32 := Scalar.addi c0_i32_381 v405
  v406.toNat
def k0_dev20 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_386 : BitVec 32 := 1#32
  let v407 : BitVec 32 := Scalar.muli v7 c1_i32_386
  let v408 : BitVec 32 := Scalar.addi c0_i32_387 v407
  v408.toNat
def k0_dev21 (d0 : Dev nD) : Nat :=
  let c0_i32_421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_420 : BitVec 32 := 1#32
  let v439 : BitVec 32 := Scalar.muli v7 c1_i32_420
  let v440 : BitVec 32 := Scalar.addi c0_i32_421 v439
  v440.toNat
def k0_dev22 (d0 : Dev nD) : Nat :=
  let c0_i32_427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_426 : BitVec 32 := 1#32
  let v441 : BitVec 32 := Scalar.muli v5 c1_i32_426
  let v442 : BitVec 32 := Scalar.addi c0_i32_427 v441
  v442.toNat
def k0_dev23 (d0 : Dev nD) : Nat :=
  let c0_i32_494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_493 : BitVec 32 := 1#32
  let v519 : BitVec 32 := Scalar.muli v5 c1_i32_493
  let v520 : BitVec 32 := Scalar.addi c0_i32_494 v519
  v520.toNat
def k0_dev24 (d0 : Dev nD) : Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_499 : BitVec 32 := 1#32
  let v521 : BitVec 32 := Scalar.muli v7 c1_i32_499
  let v522 : BitVec 32 := Scalar.addi c0_i32_500 v521
  v522.toNat
def k0_dev25 (d0 : Dev nD) : Nat :=
  let c0_i32_534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_533 : BitVec 32 := 1#32
  let v553 : BitVec 32 := Scalar.muli v7 c1_i32_533
  let v554 : BitVec 32 := Scalar.addi c0_i32_534 v553
  v554.toNat
def k0_dev26 (d0 : Dev nD) : Nat :=
  let c0_i32_540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_539 : BitVec 32 := 1#32
  let v555 : BitVec 32 := Scalar.muli v5 c1_i32_539
  let v556 : BitVec 32 := Scalar.addi c0_i32_540 v555
  v556.toNat
def k0_dev27 (d0 : Dev nD) : Nat :=
  let c0_i32_574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_573 : BitVec 32 := 1#32
  let v587 : BitVec 32 := Scalar.muli v5 c1_i32_573
  let v588 : BitVec 32 := Scalar.addi c0_i32_574 v587
  v588.toNat
def k0_dev28 (d0 : Dev nD) : Nat :=
  let c0_i32_580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_579 : BitVec 32 := 1#32
  let v589 : BitVec 32 := Scalar.muli v7 c1_i32_579
  let v590 : BitVec 32 := Scalar.addi c0_i32_580 v589
  v590.toNat
def k0_dev29 (d0 : Dev nD) : Nat :=
  let c0_i32_614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_613 : BitVec 32 := 1#32
  let v621 : BitVec 32 := Scalar.muli v7 c1_i32_613
  let v622 : BitVec 32 := Scalar.addi c0_i32_614 v621
  v622.toNat
def k0_dev30 (d0 : Dev nD) : Nat :=
  let c0_i32_620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_619 : BitVec 32 := 1#32
  let v623 : BitVec 32 := Scalar.muli v5 c1_i32_619
  let v624 : BitVec 32 := Scalar.addi c0_i32_620 v623
  v624.toNat
def k0_dev31 (d0 : Dev nD) : Nat :=
  let c0_i32_687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_686 : BitVec 32 := 1#32
  let v701 : BitVec 32 := Scalar.muli v5 c1_i32_686
  let v702 : BitVec 32 := Scalar.addi c0_i32_687 v701
  v702.toNat
def k0_dev32 (d0 : Dev nD) : Nat :=
  let c0_i32_693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_692 : BitVec 32 := 1#32
  let v703 : BitVec 32 := Scalar.muli v7 c1_i32_692
  let v704 : BitVec 32 := Scalar.addi c0_i32_693 v703
  v704.toNat
def k0_dev33 (d0 : Dev nD) : Nat :=
  let c0_i32_727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_726 : BitVec 32 := 1#32
  let v735 : BitVec 32 := Scalar.muli v7 c1_i32_726
  let v736 : BitVec 32 := Scalar.addi c0_i32_727 v735
  v736.toNat
def k0_dev34 (d0 : Dev nD) : Nat :=
  let c0_i32_733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_732 : BitVec 32 := 1#32
  let v737 : BitVec 32 := Scalar.muli v5 c1_i32_732
  let v738 : BitVec 32 := Scalar.addi c0_i32_733 v737
  v738.toNat
def k0_dev35 (d0 : Dev nD) : Nat :=
  let c0_i32_767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_766 : BitVec 32 := 1#32
  let v769 : BitVec 32 := Scalar.muli v5 c1_i32_766
  let v770 : BitVec 32 := Scalar.addi c0_i32_767 v769
  v770.toNat
def k0_dev36 (d0 : Dev nD) : Nat :=
  let c0_i32_773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_772 : BitVec 32 := 1#32
  let v771 : BitVec 32 := Scalar.muli v7 c1_i32_772
  let v772 : BitVec 32 := Scalar.addi c0_i32_773 v771
  v772.toNat
def k0_dev37 (d0 : Dev nD) : Nat :=
  let c0_i32_807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_806 : BitVec 32 := 1#32
  let v803 : BitVec 32 := Scalar.muli v7 c1_i32_806
  let v804 : BitVec 32 := Scalar.addi c0_i32_807 v803
  v804.toNat
def k0_dev38 (d0 : Dev nD) : Nat :=
  let c0_i32_813 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_812 : BitVec 32 := 1#32
  let v805 : BitVec 32 := Scalar.muli v5 c1_i32_812
  let v806 : BitVec 32 := Scalar.addi c0_i32_813 v805
  v806.toNat
def k0_dev39 (d0 : Dev nD) : Nat :=
  let c0_i32_880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_879 : BitVec 32 := 1#32
  let v883 : BitVec 32 := Scalar.muli v5 c1_i32_879
  let v884 : BitVec 32 := Scalar.addi c0_i32_880 v883
  v884.toNat
def k0_dev40 (d0 : Dev nD) : Nat :=
  let c0_i32_886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_885 : BitVec 32 := 1#32
  let v885 : BitVec 32 := Scalar.muli v7 c1_i32_885
  let v886 : BitVec 32 := Scalar.addi c0_i32_886 v885
  v886.toNat
def k0_dev41 (d0 : Dev nD) : Nat :=
  let c0_i32_920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_919 : BitVec 32 := 1#32
  let v917 : BitVec 32 := Scalar.muli v7 c1_i32_919
  let v918 : BitVec 32 := Scalar.addi c0_i32_920 v917
  v918.toNat
def k0_dev42 (d0 : Dev nD) : Nat :=
  let c0_i32_926 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_925 : BitVec 32 := 1#32
  let v919 : BitVec 32 := Scalar.muli v5 c1_i32_925
  let v920 : BitVec 32 := Scalar.addi c0_i32_926 v919
  v920.toNat
def k0_dev43 (d0 : Dev nD) : Nat :=
  let c0_i32_960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_959 : BitVec 32 := 1#32
  let v951 : BitVec 32 := Scalar.muli v5 c1_i32_959
  let v952 : BitVec 32 := Scalar.addi c0_i32_960 v951
  v952.toNat
def k0_dev44 (d0 : Dev nD) : Nat :=
  let c0_i32_966 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_965 : BitVec 32 := 1#32
  let v953 : BitVec 32 := Scalar.muli v7 c1_i32_965
  let v954 : BitVec 32 := Scalar.addi c0_i32_966 v953
  v954.toNat
def k0_dev45 (d0 : Dev nD) : Nat :=
  let c0_i32_1000 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_999 : BitVec 32 := 1#32
  let v985 : BitVec 32 := Scalar.muli v7 c1_i32_999
  let v986 : BitVec 32 := Scalar.addi c0_i32_1000 v985
  v986.toNat
def k0_dev46 (d0 : Dev nD) : Nat :=
  let c0_i32_1006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1005 : BitVec 32 := 1#32
  let v987 : BitVec 32 := Scalar.muli v5 c1_i32_1005
  let v988 : BitVec 32 := Scalar.addi c0_i32_1006 v987
  v988.toNat
def k0_dev47 (d0 : Dev nD) : Nat :=
  let c0_i32_1073 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1072 : BitVec 32 := 1#32
  let v1065 : BitVec 32 := Scalar.muli v5 c1_i32_1072
  let v1066 : BitVec 32 := Scalar.addi c0_i32_1073 v1065
  v1066.toNat
def k0_dev48 (d0 : Dev nD) : Nat :=
  let c0_i32_1079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1078 : BitVec 32 := 1#32
  let v1067 : BitVec 32 := Scalar.muli v7 c1_i32_1078
  let v1068 : BitVec 32 := Scalar.addi c0_i32_1079 v1067
  v1068.toNat
def k0_dev49 (d0 : Dev nD) : Nat :=
  let c0_i32_1113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1112 : BitVec 32 := 1#32
  let v1099 : BitVec 32 := Scalar.muli v7 c1_i32_1112
  let v1100 : BitVec 32 := Scalar.addi c0_i32_1113 v1099
  v1100.toNat
def k0_dev50 (d0 : Dev nD) : Nat :=
  let c0_i32_1119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1118 : BitVec 32 := 1#32
  let v1101 : BitVec 32 := Scalar.muli v5 c1_i32_1118
  let v1102 : BitVec 32 := Scalar.addi c0_i32_1119 v1101
  v1102.toNat
def k0_dev51 (d0 : Dev nD) : Nat :=
  let c0_i32_1153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1152 : BitVec 32 := 1#32
  let v1133 : BitVec 32 := Scalar.muli v5 c1_i32_1152
  let v1134 : BitVec 32 := Scalar.addi c0_i32_1153 v1133
  v1134.toNat
def k0_dev52 (d0 : Dev nD) : Nat :=
  let c0_i32_1159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1158 : BitVec 32 := 1#32
  let v1135 : BitVec 32 := Scalar.muli v7 c1_i32_1158
  let v1136 : BitVec 32 := Scalar.addi c0_i32_1159 v1135
  v1136.toNat
def k0_dev53 (d0 : Dev nD) : Nat :=
  let c0_i32_1193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1192 : BitVec 32 := 1#32
  let v1167 : BitVec 32 := Scalar.muli v7 c1_i32_1192
  let v1168 : BitVec 32 := Scalar.addi c0_i32_1193 v1167
  v1168.toNat
def k0_dev54 (d0 : Dev nD) : Nat :=
  let c0_i32_1199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1198 : BitVec 32 := 1#32
  let v1169 : BitVec 32 := Scalar.muli v5 c1_i32_1198
  let v1170 : BitVec 32 := Scalar.addi c0_i32_1199 v1169
  v1170.toNat
def k0_dev55 (d0 : Dev nD) : Nat :=
  let c0_i32_1266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1265 : BitVec 32 := 1#32
  let v1247 : BitVec 32 := Scalar.muli v5 c1_i32_1265
  let v1248 : BitVec 32 := Scalar.addi c0_i32_1266 v1247
  v1248.toNat
def k0_dev56 (d0 : Dev nD) : Nat :=
  let c0_i32_1272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1271 : BitVec 32 := 1#32
  let v1249 : BitVec 32 := Scalar.muli v7 c1_i32_1271
  let v1250 : BitVec 32 := Scalar.addi c0_i32_1272 v1249
  v1250.toNat
def k0_dev57 (d0 : Dev nD) : Nat :=
  let c0_i32_1306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1305 : BitVec 32 := 1#32
  let v1281 : BitVec 32 := Scalar.muli v7 c1_i32_1305
  let v1282 : BitVec 32 := Scalar.addi c0_i32_1306 v1281
  v1282.toNat
def k0_dev58 (d0 : Dev nD) : Nat :=
  let c0_i32_1312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1311 : BitVec 32 := 1#32
  let v1283 : BitVec 32 := Scalar.muli v5 c1_i32_1311
  let v1284 : BitVec 32 := Scalar.addi c0_i32_1312 v1283
  v1284.toNat
def k0_dev59 (d0 : Dev nD) : Nat :=
  let c0_i32_1346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1345 : BitVec 32 := 1#32
  let v1315 : BitVec 32 := Scalar.muli v5 c1_i32_1345
  let v1316 : BitVec 32 := Scalar.addi c0_i32_1346 v1315
  v1316.toNat
def k0_dev60 (d0 : Dev nD) : Nat :=
  let c0_i32_1352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1351 : BitVec 32 := 1#32
  let v1317 : BitVec 32 := Scalar.muli v7 c1_i32_1351
  let v1318 : BitVec 32 := Scalar.addi c0_i32_1352 v1317
  v1318.toNat
def k0_dev61 (d0 : Dev nD) : Nat :=
  let c0_i32_1386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1385 : BitVec 32 := 1#32
  let v1349 : BitVec 32 := Scalar.muli v7 c1_i32_1385
  let v1350 : BitVec 32 := Scalar.addi c0_i32_1386 v1349
  v1350.toNat
def k0_dev62 (d0 : Dev nD) : Nat :=
  let c0_i32_1392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1391 : BitVec 32 := 1#32
  let v1351 : BitVec 32 := Scalar.muli v5 c1_i32_1391
  let v1352 : BitVec 32 := Scalar.addi c0_i32_1392 v1351
  v1352.toNat
def k0_dev63 (d0 : Dev nD) : Nat :=
  let c0_i32_1459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1458 : BitVec 32 := 1#32
  let v1429 : BitVec 32 := Scalar.muli v5 c1_i32_1458
  let v1430 : BitVec 32 := Scalar.addi c0_i32_1459 v1429
  v1430.toNat
def k0_dev64 (d0 : Dev nD) : Nat :=
  let c0_i32_1465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1464 : BitVec 32 := 1#32
  let v1431 : BitVec 32 := Scalar.muli v7 c1_i32_1464
  let v1432 : BitVec 32 := Scalar.addi c0_i32_1465 v1431
  v1432.toNat
def k0_dev65 (d0 : Dev nD) : Nat :=
  let c0_i32_1499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1498 : BitVec 32 := 1#32
  let v1463 : BitVec 32 := Scalar.muli v7 c1_i32_1498
  let v1464 : BitVec 32 := Scalar.addi c0_i32_1499 v1463
  v1464.toNat
def k0_dev66 (d0 : Dev nD) : Nat :=
  let c0_i32_1505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1504 : BitVec 32 := 1#32
  let v1465 : BitVec 32 := Scalar.muli v5 c1_i32_1504
  let v1466 : BitVec 32 := Scalar.addi c0_i32_1505 v1465
  v1466.toNat
def k0_dev67 (d0 : Dev nD) : Nat :=
  let c0_i32_1539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1538 : BitVec 32 := 1#32
  let v1497 : BitVec 32 := Scalar.muli v5 c1_i32_1538
  let v1498 : BitVec 32 := Scalar.addi c0_i32_1539 v1497
  v1498.toNat
def k0_dev68 (d0 : Dev nD) : Nat :=
  let c0_i32_1545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1544 : BitVec 32 := 1#32
  let v1499 : BitVec 32 := Scalar.muli v7 c1_i32_1544
  let v1500 : BitVec 32 := Scalar.addi c0_i32_1545 v1499
  v1500.toNat
def k0_dev69 (d0 : Dev nD) : Nat :=
  let c0_i32_1579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1578 : BitVec 32 := 1#32
  let v1531 : BitVec 32 := Scalar.muli v7 c1_i32_1578
  let v1532 : BitVec 32 := Scalar.addi c0_i32_1579 v1531
  v1532.toNat
def k0_dev70 (d0 : Dev nD) : Nat :=
  let c0_i32_1585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1584 : BitVec 32 := 1#32
  let v1533 : BitVec 32 := Scalar.muli v5 c1_i32_1584
  let v1534 : BitVec 32 := Scalar.addi c0_i32_1585 v1533
  v1534.toNat
def k0_dev71 (d0 : Dev nD) : Nat :=
  let c0_i32_1652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1651 : BitVec 32 := 1#32
  let v1611 : BitVec 32 := Scalar.muli v5 c1_i32_1651
  let v1612 : BitVec 32 := Scalar.addi c0_i32_1652 v1611
  v1612.toNat
def k0_dev72 (d0 : Dev nD) : Nat :=
  let c0_i32_1658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1657 : BitVec 32 := 1#32
  let v1613 : BitVec 32 := Scalar.muli v7 c1_i32_1657
  let v1614 : BitVec 32 := Scalar.addi c0_i32_1658 v1613
  v1614.toNat
def k0_dev73 (d0 : Dev nD) : Nat :=
  let c0_i32_1692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1691 : BitVec 32 := 1#32
  let v1645 : BitVec 32 := Scalar.muli v7 c1_i32_1691
  let v1646 : BitVec 32 := Scalar.addi c0_i32_1692 v1645
  v1646.toNat
def k0_dev74 (d0 : Dev nD) : Nat :=
  let c0_i32_1698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1697 : BitVec 32 := 1#32
  let v1647 : BitVec 32 := Scalar.muli v5 c1_i32_1697
  let v1648 : BitVec 32 := Scalar.addi c0_i32_1698 v1647
  v1648.toNat
def k0_dev75 (d0 : Dev nD) : Nat :=
  let c0_i32_1732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1731 : BitVec 32 := 1#32
  let v1679 : BitVec 32 := Scalar.muli v5 c1_i32_1731
  let v1680 : BitVec 32 := Scalar.addi c0_i32_1732 v1679
  v1680.toNat
def k0_dev76 (d0 : Dev nD) : Nat :=
  let c0_i32_1738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1737 : BitVec 32 := 1#32
  let v1681 : BitVec 32 := Scalar.muli v7 c1_i32_1737
  let v1682 : BitVec 32 := Scalar.addi c0_i32_1738 v1681
  v1682.toNat
def k0_dev77 (d0 : Dev nD) : Nat :=
  let c0_i32_1772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1771 : BitVec 32 := 1#32
  let v1713 : BitVec 32 := Scalar.muli v7 c1_i32_1771
  let v1714 : BitVec 32 := Scalar.addi c0_i32_1772 v1713
  v1714.toNat
def k0_dev78 (d0 : Dev nD) : Nat :=
  let c0_i32_1778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1777 : BitVec 32 := 1#32
  let v1715 : BitVec 32 := Scalar.muli v5 c1_i32_1777
  let v1716 : BitVec 32 := Scalar.addi c0_i32_1778 v1715
  v1716.toNat
def k0_dev79 (d0 : Dev nD) : Nat :=
  let c0_i32_1845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1844 : BitVec 32 := 1#32
  let v1793 : BitVec 32 := Scalar.muli v5 c1_i32_1844
  let v1794 : BitVec 32 := Scalar.addi c0_i32_1845 v1793
  v1794.toNat
def k0_dev80 (d0 : Dev nD) : Nat :=
  let c0_i32_1851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1850 : BitVec 32 := 1#32
  let v1795 : BitVec 32 := Scalar.muli v7 c1_i32_1850
  let v1796 : BitVec 32 := Scalar.addi c0_i32_1851 v1795
  v1796.toNat
def k0_dev81 (d0 : Dev nD) : Nat :=
  let c0_i32_1885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1884 : BitVec 32 := 1#32
  let v1827 : BitVec 32 := Scalar.muli v7 c1_i32_1884
  let v1828 : BitVec 32 := Scalar.addi c0_i32_1885 v1827
  v1828.toNat
def k0_dev82 (d0 : Dev nD) : Nat :=
  let c0_i32_1891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1890 : BitVec 32 := 1#32
  let v1829 : BitVec 32 := Scalar.muli v5 c1_i32_1890
  let v1830 : BitVec 32 := Scalar.addi c0_i32_1891 v1829
  v1830.toNat
def k0_dev83 (d0 : Dev nD) : Nat :=
  let c0_i32_1925 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1924 : BitVec 32 := 1#32
  let v1861 : BitVec 32 := Scalar.muli v5 c1_i32_1924
  let v1862 : BitVec 32 := Scalar.addi c0_i32_1925 v1861
  v1862.toNat
def k0_dev84 (d0 : Dev nD) : Nat :=
  let c0_i32_1931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1930 : BitVec 32 := 1#32
  let v1863 : BitVec 32 := Scalar.muli v7 c1_i32_1930
  let v1864 : BitVec 32 := Scalar.addi c0_i32_1931 v1863
  v1864.toNat
def k0_dev85 (d0 : Dev nD) : Nat :=
  let c0_i32_1965 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1964 : BitVec 32 := 1#32
  let v1895 : BitVec 32 := Scalar.muli v7 c1_i32_1964
  let v1896 : BitVec 32 := Scalar.addi c0_i32_1965 v1895
  v1896.toNat
def k0_dev86 (d0 : Dev nD) : Nat :=
  let c0_i32_1971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1970 : BitVec 32 := 1#32
  let v1897 : BitVec 32 := Scalar.muli v5 c1_i32_1970
  let v1898 : BitVec 32 := Scalar.addi c0_i32_1971 v1897
  v1898.toNat
def k0_dev87 (d0 : Dev nD) : Nat :=
  let c0_i32_2038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2037 : BitVec 32 := 1#32
  let v1975 : BitVec 32 := Scalar.muli v5 c1_i32_2037
  let v1976 : BitVec 32 := Scalar.addi c0_i32_2038 v1975
  v1976.toNat
def k0_dev88 (d0 : Dev nD) : Nat :=
  let c0_i32_2044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2043 : BitVec 32 := 1#32
  let v1977 : BitVec 32 := Scalar.muli v7 c1_i32_2043
  let v1978 : BitVec 32 := Scalar.addi c0_i32_2044 v1977
  v1978.toNat
def k0_dev89 (d0 : Dev nD) : Nat :=
  let c0_i32_2078 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2077 : BitVec 32 := 1#32
  let v2009 : BitVec 32 := Scalar.muli v7 c1_i32_2077
  let v2010 : BitVec 32 := Scalar.addi c0_i32_2078 v2009
  v2010.toNat
def k0_dev90 (d0 : Dev nD) : Nat :=
  let c0_i32_2084 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2083 : BitVec 32 := 1#32
  let v2011 : BitVec 32 := Scalar.muli v5 c1_i32_2083
  let v2012 : BitVec 32 := Scalar.addi c0_i32_2084 v2011
  v2012.toNat
def k0_dev91 (d0 : Dev nD) : Nat :=
  let c0_i32_2118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2117 : BitVec 32 := 1#32
  let v2043 : BitVec 32 := Scalar.muli v5 c1_i32_2117
  let v2044 : BitVec 32 := Scalar.addi c0_i32_2118 v2043
  v2044.toNat
def k0_dev92 (d0 : Dev nD) : Nat :=
  let c0_i32_2124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2123 : BitVec 32 := 1#32
  let v2045 : BitVec 32 := Scalar.muli v7 c1_i32_2123
  let v2046 : BitVec 32 := Scalar.addi c0_i32_2124 v2045
  v2046.toNat
def k0_dev93 (d0 : Dev nD) : Nat :=
  let c0_i32_2158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2157 : BitVec 32 := 1#32
  let v2077 : BitVec 32 := Scalar.muli v7 c1_i32_2157
  let v2078 : BitVec 32 := Scalar.addi c0_i32_2158 v2077
  v2078.toNat
def k0_dev94 (d0 : Dev nD) : Nat :=
  let c0_i32_2164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2163 : BitVec 32 := 1#32
  let v2079 : BitVec 32 := Scalar.muli v5 c1_i32_2163
  let v2080 : BitVec 32 := Scalar.addi c0_i32_2164 v2079
  v2080.toNat
def k0_dev95 (d0 : Dev nD) : Nat :=
  let c0_i32_2231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2230 : BitVec 32 := 1#32
  let v2157 : BitVec 32 := Scalar.muli v5 c1_i32_2230
  let v2158 : BitVec 32 := Scalar.addi c0_i32_2231 v2157
  v2158.toNat
def k0_dev96 (d0 : Dev nD) : Nat :=
  let c0_i32_2237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2236 : BitVec 32 := 1#32
  let v2159 : BitVec 32 := Scalar.muli v7 c1_i32_2236
  let v2160 : BitVec 32 := Scalar.addi c0_i32_2237 v2159
  v2160.toNat
def k0_dev97 (d0 : Dev nD) : Nat :=
  let c0_i32_2271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2270 : BitVec 32 := 1#32
  let v2191 : BitVec 32 := Scalar.muli v7 c1_i32_2270
  let v2192 : BitVec 32 := Scalar.addi c0_i32_2271 v2191
  v2192.toNat
def k0_dev98 (d0 : Dev nD) : Nat :=
  let c0_i32_2277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2276 : BitVec 32 := 1#32
  let v2193 : BitVec 32 := Scalar.muli v5 c1_i32_2276
  let v2194 : BitVec 32 := Scalar.addi c0_i32_2277 v2193
  v2194.toNat
def k0_dev99 (d0 : Dev nD) : Nat :=
  let c0_i32_2311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2310 : BitVec 32 := 1#32
  let v2225 : BitVec 32 := Scalar.muli v5 c1_i32_2310
  let v2226 : BitVec 32 := Scalar.addi c0_i32_2311 v2225
  v2226.toNat
def k0_dev100 (d0 : Dev nD) : Nat :=
  let c0_i32_2317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2316 : BitVec 32 := 1#32
  let v2227 : BitVec 32 := Scalar.muli v7 c1_i32_2316
  let v2228 : BitVec 32 := Scalar.addi c0_i32_2317 v2227
  v2228.toNat
def k0_dev101 (d0 : Dev nD) : Nat :=
  let c0_i32_2351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2350 : BitVec 32 := 1#32
  let v2259 : BitVec 32 := Scalar.muli v7 c1_i32_2350
  let v2260 : BitVec 32 := Scalar.addi c0_i32_2351 v2259
  v2260.toNat
def k0_dev102 (d0 : Dev nD) : Nat :=
  let c0_i32_2357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2356 : BitVec 32 := 1#32
  let v2261 : BitVec 32 := Scalar.muli v5 c1_i32_2356
  let v2262 : BitVec 32 := Scalar.addi c0_i32_2357 v2261
  v2262.toNat
def k0_dev103 (d0 : Dev nD) : Nat :=
  let c0_i32_2424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2423 : BitVec 32 := 1#32
  let v2339 : BitVec 32 := Scalar.muli v5 c1_i32_2423
  let v2340 : BitVec 32 := Scalar.addi c0_i32_2424 v2339
  v2340.toNat
def k0_dev104 (d0 : Dev nD) : Nat :=
  let c0_i32_2430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2429 : BitVec 32 := 1#32
  let v2341 : BitVec 32 := Scalar.muli v7 c1_i32_2429
  let v2342 : BitVec 32 := Scalar.addi c0_i32_2430 v2341
  v2342.toNat
def k0_dev105 (d0 : Dev nD) : Nat :=
  let c0_i32_2464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2463 : BitVec 32 := 1#32
  let v2373 : BitVec 32 := Scalar.muli v7 c1_i32_2463
  let v2374 : BitVec 32 := Scalar.addi c0_i32_2464 v2373
  v2374.toNat
def k0_dev106 (d0 : Dev nD) : Nat :=
  let c0_i32_2470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2469 : BitVec 32 := 1#32
  let v2375 : BitVec 32 := Scalar.muli v5 c1_i32_2469
  let v2376 : BitVec 32 := Scalar.addi c0_i32_2470 v2375
  v2376.toNat
def k0_dev107 (d0 : Dev nD) : Nat :=
  let c0_i32_2504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2503 : BitVec 32 := 1#32
  let v2407 : BitVec 32 := Scalar.muli v5 c1_i32_2503
  let v2408 : BitVec 32 := Scalar.addi c0_i32_2504 v2407
  v2408.toNat
def k0_dev108 (d0 : Dev nD) : Nat :=
  let c0_i32_2510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2509 : BitVec 32 := 1#32
  let v2409 : BitVec 32 := Scalar.muli v7 c1_i32_2509
  let v2410 : BitVec 32 := Scalar.addi c0_i32_2510 v2409
  v2410.toNat
def k0_dev109 (d0 : Dev nD) : Nat :=
  let c0_i32_2544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2543 : BitVec 32 := 1#32
  let v2441 : BitVec 32 := Scalar.muli v7 c1_i32_2543
  let v2442 : BitVec 32 := Scalar.addi c0_i32_2544 v2441
  v2442.toNat
def k0_dev110 (d0 : Dev nD) : Nat :=
  let c0_i32_2550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2549 : BitVec 32 := 1#32
  let v2443 : BitVec 32 := Scalar.muli v5 c1_i32_2549
  let v2444 : BitVec 32 := Scalar.addi c0_i32_2550 v2443
  v2444.toNat
def k0_dev111 (d0 : Dev nD) : Nat :=
  let c0_i32_2620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2619 : BitVec 32 := 1#32
  let v2521 : BitVec 32 := Scalar.muli v7 c1_i32_2619
  let v2522 : BitVec 32 := Scalar.addi c0_i32_2620 v2521
  v2522.toNat
def k0_dev112 (d0 : Dev nD) : Nat :=
  let c0_i32_2657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2656 : BitVec 32 := 1#32
  let v2553 : BitVec 32 := Scalar.muli v5 c1_i32_2656
  let v2554 : BitVec 32 := Scalar.addi c0_i32_2657 v2553
  v2554.toNat
def k0_dev113 (d0 : Dev nD) : Nat :=
  let c0_i32_2694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2693 : BitVec 32 := 1#32
  let v2585 : BitVec 32 := Scalar.muli v7 c1_i32_2693
  let v2586 : BitVec 32 := Scalar.addi c0_i32_2694 v2585
  v2586.toNat
def k0_dev114 (d0 : Dev nD) : Nat :=
  let c0_i32_2731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2730 : BitVec 32 := 1#32
  let v2617 : BitVec 32 := Scalar.muli v5 c1_i32_2730
  let v2618 : BitVec 32 := Scalar.addi c0_i32_2731 v2617
  v2618.toNat
abbrev stage0_0 : Fin 1 → Memref sig .tc .vmem S4096x256 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S_, .f32⟩
  | .hbm, ⟨24, _⟩ => ⟨S4096x8192, .f32⟩
  | .hbm, ⟨25, _⟩ => ⟨S4096x8192, .f32⟩
  | .hbm, ⟨26, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Proof.Ring.Body.lean ====
/- The kernel body of `proofs.«01_k».proof.KernelIdeal`, written once for a stream and a step instead of statement
   by statement.

   There are four streams, one per quarter of the columns; streams 0 and 1 travel to the right neighbour, streams
   2 and 3 to the left one. A step of a stream waits for the message of the step before, adds the device's own
   partial product to it and sends the sum on; the last step scales the sum, applies the activation and stores the
   quarter of the result. `body_eq` says that the printed body is this program. -/
module

public import proofs.«01_k».proof.Proof.Gen.KernelIdeal.Skeleton

@[expose] public section

noncomputable section

namespace Cert.KernelIdeal.Ring

open Idealize.ShloMosaic Idealize.ShloMosaic.TcCoe Idealize.SL.Sem

open Facts₀ Facts

variable {F : FTy → Type} [FloatOps F]

/-! ## The buffers and semaphores of a stream -/

/-- The staging buffer the stream sends from. -/
def snd : Fin 4 → Memref sig .tc .vmem S2x256x2048 .bf16
  | 0 => Memref.whole cc0_scratch0
  | 1 => Memref.whole cc0_scratch1
  | 2 => Memref.whole cc0_scratch2
  | 3 => Memref.whole cc0_scratch3

/-- The buffer the stream's messages land in. -/
def rcv : Fin 4 → Memref sig .tc .vmem S2x256x2048 .bf16
  | 0 => Memref.whole cc0_scratch4
  | 1 => Memref.whole cc0_scratch5
  | 2 => Memref.whole cc0_scratch6
  | 3 => Memref.whole cc0_scratch7

theorem snd_whole : ∀ q, (snd q).IsWhole
  | 0 | 1 | 2 | 3 => Memref.isWhole_whole _

theorem rcv_whole : ∀ q, (rcv q).IsWhole
  | 0 | 1 | 2 | 3 => Memref.isWhole_whole _

/-- The semaphores counting the stream's departures. -/
def sArr : Fin 4 → DmaSems sig S2
  | 0 => cc0_scratch8
  | 1 => cc0_scratch9
  | 2 => cc0_scratch10
  | 3 => cc0_scratch11

/-- The semaphores counting the stream's arrivals. -/
def rArr : Fin 4 → DmaSems sig S2
  | 0 => cc0_scratch12
  | 1 => cc0_scratch13
  | 2 => cc0_scratch14
  | 3 => cc0_scratch15

/-- The semaphore on which the next device returns the stream's free slots. -/
def crd : Fin 4 → Sem sig
  | 0 => cc0_scratch16.sem
  | 1 => cc0_scratch17.sem
  | 2 => cc0_scratch18.sem
  | 3 => cc0_scratch19.sem

/-- The semaphore of the barrier at the kernel's entry. -/
def bar : Sem sig := (SemArray.scalar (sig.barrier 0 rfl) : Sems sig S_).sem

theorem inb_slot : ∀ (b : Fin 2), ∀ a, (![b.val, 0, 0] : Fin 3 → Nat) a + S1x256x2048.size a ≤ S2x256x2048.size a
  | 0 => inb_S2x256x2048_S1x256x2048_0_0_0
  | 1 => inb_S2x256x2048_S1x256x2048_1_0_0

theorem inb_sem : ∀ (b : Fin 2), ∀ a, (![b.val] : Fin 1 → Nat) a + S1.size a ≤ S2.size a
  | 0 => inb_S2_S1_0
  | 1 => inb_S2_S1_1

/-- Slot `b` of a double buffer. -/
abbrev slotRect (b : Fin 2) : Rect S2x256x2048 :=
  Rect.unit (s := S2x256x2048) ![b.val, 0, 0] S1x256x2048.size (inb_slot b)

theorem slot_words : ∀ b, (slotRect b).WholeWords (EltTy.packing .bf16)
  | 0 => wordsbf16_S2x256x2048_S1x256x2048_0_0_0
  | 1 => wordsbf16_S2x256x2048_S1x256x2048_1_0_0

theorem slot_packed : ∀ b, (slotRect b).PackedRows (EltTy.packing .bf16)
  | 0 => packedbf16_S2x256x2048_S1x256x2048_0_0_0
  | 1 => packedbf16_S2x256x2048_S1x256x2048_1_0_0

/-- Slot `b` of a double buffer as a matrix. -/
abbrev slotV (A : Memref sig .tc .vmem S2x256x2048 .bf16) (b : Fin 2) : Memref sig .tc .vmem S256x2048 .bf16 :=
  (A.slice (slotRect b) (fun _ => rfl) : Memref sig .tc .vmem S1x256x2048 .bf16).squeeze S256x2048 squeezes_S1x256x2048_S256x2048

theorem slotV_words {A : Memref sig .tc .vmem S2x256x2048 .bf16} (hA : A.IsWhole) (b : Fin 2) : (slotV A b).view.WordExact :=
  (hA.wordExact_slice rfl _ (slot_words b)).reshape _ _

/-- Entry `b` of a pair of semaphores. -/
abbrev semAt (A : DmaSems sig S2) (b : Fin 2) : DmaSem sig :=
  ((A.slice (Rect.unit (s := S2) ![b.val] S1.size (inb_sem b)) : DmaSems sig S1).squeeze S_ squeezes_S1_S_).sem

theorem inb_quarter : ∀ (q : Fin 4), ∀ a, (![0, 2048 * q.val] : Fin 2 → Nat) a + S256x2048.size a ≤ S256x8192.size a
  | 0 => inb_S256x8192_S256x2048_0_0
  | 1 => inb_S256x8192_S256x2048_0_2048
  | 2 => inb_S256x8192_S256x2048_0_4096
  | 3 => inb_S256x8192_S256x2048_0_6144

/-- The stream's quarter of the columns. -/
abbrev quarterRect (q : Fin 4) : Rect S256x8192 :=
  Rect.unit (s := S256x8192) ![0, 2048 * q.val] S256x2048.size (inb_quarter q)

/-- The offsets of the row block the stream treats at step `s`. -/
def chunkOff (d : Dev nD) (s : Fin 16) : Fin 4 → Fin 2 → Nat
  | 0 | 1 => k0_off1 d (BitVec.ofNat 32 s.val)
  | 2 | 3 => k0_off2 d (BitVec.ofNat 32 s.val)

theorem chunk_inb (d : Dev nD) (s : Fin 16) : ∀ (q : Fin 4), ∀ a, chunkOff d s q a + S256x256.size a ≤ S4096x256.size a
  | 0 | 1 => k0_off1_inb d s
  | 2 | 3 => k0_off2_inb d s

abbrev chunkRect (d : Dev nD) (s : Fin 16) (q : Fin 4) : Rect S4096x256 :=
  Rect.unit (s := S4096x256) (chunkOff d s q) S256x256.size (chunk_inb d s q)

/-- The left and the right neighbour. -/
def left (d : Dev nD) : Dev nD := ⟨k0_dev1 d, k0_dev1_lt d⟩
def right (d : Dev nD) : Dev nD := ⟨k0_dev2 d, k0_dev2_lt d⟩

/-- The device the stream's messages go to. -/
def down (d : Dev nD) : Fin 4 → Dev nD
  | 0 | 1 => right d
  | 2 | 3 => left d

/-- The device the stream's messages come from. -/
def up (d : Dev nD) : Fin 4 → Dev nD
  | 0 | 1 => left d
  | 2 | 3 => right d

/-! ## The values -/

/-- A block product, in 32-bit integers. -/
def prod (x : Vec F S256x256 .i8) (w : Vec F S256x2048 .i8) : IVec S256x2048 32 :=
  matmulI8 IntMxuNumerics.v7x dot_S256x256_S256x2048_S256x2048_1_0_0_1_n_n
    (shapeCast S256x256 x shapeCasts_S256x256_S256x256) (shapeCast S256x2048 w shapeCasts_S256x2048_S256x2048)
    (constantI S256x2048 32 0#32)

/-- The first message: the block product, rounded. -/
def firstMsg (x : Vec F S256x256 .i8) (w : Vec F S256x2048 .i8) : FVec F S1x256x2048 .bf16 :=
  shapeCast S1x256x2048 (sitofp .bf16 (prod x w)) shapeCasts_S256x2048_S1x256x2048

/-- A later step's own part. -/
def part (x : Vec F S256x256 .i8) (w : Vec F S256x2048 .i8) : FVec F S256x2048 .f32 :=
  sitofp .f32 (prod x w)

/-- What arrived, with the own part added. -/
def accum (p : FVec F S256x2048 .f32) (v : Vec F S1x256x2048 .bf16) : FVec F S256x2048 .f32 :=
  addf (extf .f32 (shapeCast S256x2048 v shapeCasts_S1x256x2048_S256x2048) bitsLt_bf16_f32) p

/-- A later message: the sum, rounded. -/
def nextMsg (p : FVec F S256x2048 .f32) (v : Vec F S1x256x2048 .bf16) : FVec F S1x256x2048 .bf16 :=
  shapeCast S1x256x2048 (truncf .bf16 (accum p v) bitsLt_bf16_f32) shapeCasts_S256x2048_S1x256x2048

/-- The scaled sum. -/
def scaled (p : FVec F S256x2048 .f32) (v : Vec F S1x256x2048 .bf16) (sc : Elt F .f32) : FVec F S256x2048 .f32 :=
  mulf (accum p v) (broadcast S256x2048 sc)

/-- The activation of the scaled sum. -/
def activate (y : FVec F S256x2048 .f32) : FVec F S256x2048 .f32 :=
  mulf y (logistic (minimumf (broadcast S256x2048 (Scalar.ofBits .f32 0x42700000#32))
    (maximumf (broadcast S256x2048 (Scalar.ofBits .f32 0xC2700000#32)) y)))

/-- The quarter of the result. -/
def finish (p : FVec F S256x2048 .f32) (v : Vec F S1x256x2048 .bf16) (sc : Elt F .f32) : FVec F S256x2048 .f32 :=
  activate (scaled p v sc)

/-! ## The program -/

abbrev Eff (F : FTy → Type) := TpuEff nD τ sig (Elt F) Λ₀ .tc

section
variable (xM : Memref sig .tc .vmem S4096x256 .i8) (wM : Memref sig .tc .vmem S256x8192 .i8)
  (cM : Memref sig .tc .smem S1x1 .f32) (oM : Memref sig .tc .vmem S256x8192 .f32)

/-- Slot of the message of step `s`. -/
def slotOf (s : ℕ) : Fin 2 := ⟨s % 2, Nat.mod_lt _ (by decide)⟩

/-- Load a row block and a quarter of the columns. -/
def loads (d : Dev nD) (s : Fin 16) (q : Fin 4) {α : Type} (k : Vec F S256x256 .i8 → Vec F S256x2048 .i8 → Prog (Eff F) α) : Prog (Eff F) α :=
  .op (.load xM (chunkRect d s q).toLoadRect (View.loadsAt_vmem h_S256x256)) fun x =>
  .op (.load wM (quarterRect q).toLoadRect (View.loadsAt_vmem h_S256x2048)) fun w => k x w

/-- Store a message in its slot (the slot is read first, and what was read is not used). -/
def put (q : Fin 4) (b : Fin 2) (v : FVec F S1x256x2048 .bf16) {α : Type} (k : Prog (Eff F) α) : Prog (Eff F) α :=
  .op (.load (snd q) (slotRect b).toLoadRect (View.loadsAt_vmem h_S1x256x2048)) fun _ =>
  .op (.store (snd q) (slotRect b) v Finset.univ
    (View.stores_vmem h_S1x256x2048 ((snd_whole q).storeExact_slice rfl _ (slot_packed b)) (fun _ => rfl)) (.inl rfl)) fun _ => k

/-- Send a slot on. -/
def send (d : Dev nD) (q : Fin 4) (b : Fin 2) {α : Type} (k : Prog (Eff F) α) : Prog (Eff F) α :=
  .op (.enqueueDma (slotV (snd q) b) (.remote (Dev.tc (down d q)) (slotV (rcv q) b) (.dma (semAt (sArr q) b))) (.dma (semAt (rArr q) b))
    (slotV_words (snd_whole q) b) (slotV_words (rcv_whole q) b) ⟨⟨rfl, Or.inl rfl⟩, trivial⟩) fun _ => k

/-- Wait until a message has arrived. -/
def awaitRecv (q : Fin 4) (b : Fin 2) {α : Type} (k : Prog (Eff F) α) : Prog (Eff F) α :=
  .op (.waitDma2 (semAt (rArr q) b) (slotV (snd q) b) (slotV (rcv q) b) (slotV_words (snd_whole q) b) (slotV_words (rcv_whole q) b)) fun _ => k

/-- Wait until a slot's message has left. -/
def awaitSend (q : Fin 4) (b : Fin 2) {α : Type} (k : Prog (Eff F) α) : Prog (Eff F) α :=
  .op (.waitDma2 (semAt (sArr q) b) (slotV (rcv q) b) (slotV (snd q) b) (slotV_words (rcv_whole q) b) (slotV_words (snd_whole q) b)) fun _ => k

/-- Read what arrived. -/
def take (q : Fin 4) (b : Fin 2) {α : Type} (k : Vec F S1x256x2048 .bf16 → Prog (Eff F) α) : Prog (Eff F) α :=
  .op (.load (rcv q) (slotRect b).toLoadRect (View.loadsAt_vmem h_S1x256x2048)) k

/-- Wait for a free slot at the receiver. -/
def awaitCredit (q : Fin 4) {α : Type} (k : Prog (Eff F) α) : Prog (Eff F) α := .op (.semWait (crd q) (1#32).toInt) fun _ => k

/-- Signal a regular semaphore of a device. -/
def signal (d' : Dev nD) (sm : Sem sig) {α : Type} (k : Prog (Eff F) α) : Prog (Eff F) α :=
  .op (.semSignal (d', .tc) sm (1#32).toInt) fun _ => k

/-- Step 0 of a stream. -/
def first (d : Dev nD) (q : Fin 4) (k : Prog (Eff F) PUnit.{1}) : Prog (Eff F) PUnit.{1} :=
  loads xM wM d 0 q fun x w => put q 0 (firstMsg x w) (send d q 0 k)

/-- From the third step on, the send slot must be free again, and so must the receiver's. -/
def gate (s : ℕ) (q : Fin 4) (k : Prog (Eff F) PUnit.{1}) : Prog (Eff F) PUnit.{1} :=
  bif Nat.ble 2 s then awaitSend q (slotOf s) (awaitCredit q k) else k

/-- Return the slot just read, while a message is still to come for it. -/
def giveBack (d : Dev nD) (s : ℕ) (q : Fin 4) (k : Prog (Eff F) PUnit.{1}) : Prog (Eff F) PUnit.{1} :=
  bif Nat.ble s 13 then signal (up d q) (crd q) k else k

/-- A step of a stream between the first and the last. -/
def middle (d : Dev nD) (s : ℕ) (q : Fin 4) (p : FVec F S256x2048 .f32) (k : Prog (Eff F) PUnit.{1}) : Prog (Eff F) PUnit.{1} :=
  awaitRecv q (slotOf (s - 1)) <| take q (slotOf (s - 1)) fun v =>
  gate s q <| put q (slotOf s) (nextMsg p v) <| giveBack d s q <| send d q (slotOf s) k

/-- The last step of a stream. -/
def last (q : Fin 4) (p : FVec F S256x2048 .f32) (k : Prog (Eff F) PUnit.{1}) : Prog (Eff F) PUnit.{1} :=
  awaitRecv q 0 <| take q 0 fun v =>
  .op (.load cM (Rect.unit (s := S1x1) ![0, 0] S1x1.size inb_S1x1_S1x1_0_0).toLoadRect (View.loadsAt_rect (View.loads_smem_one rfl numel1_S1x1))) fun f =>
  .op (.load oM (quarterRect q).toLoadRect (View.loadsAt_vmem h_S256x2048)) fun _ =>
  .op (.store oM (quarterRect q) (finish p v (f (Shape.Idx.first (numel1_S1x1.symm ▸ Nat.one_pos)))) Finset.univ
    (View.stores_vmem_bits_univ h_S256x2048 rfl) (.inl rfl)) fun _ => k

/-- The four own parts of a step. -/
def parts (d : Dev nD) (s : Fin 16) (k : (Fin 4 → FVec F S256x2048 .f32) → Prog (Eff F) PUnit.{1}) : Prog (Eff F) PUnit.{1} :=
  loads xM wM d s 0 fun x0 w0 => loads xM wM d s 1 fun x1 w1 => loads xM wM d s 2 fun x2 w2 => loads xM wM d s 3 fun x3 w3 =>
  k fun | 0 => part x0 w0 | 1 => part x1 w1 | 2 => part x2 w2 | 3 => part x3 w3

/-- A step between the first and the last, on the four streams. -/
def step (d : Dev nD) (s : Fin 16) (k : Prog (Eff F) PUnit.{1}) : Prog (Eff F) PUnit.{1} :=
  parts xM wM d s fun p =>
  middle d s 0 (p 0) <| middle d s 2 (p 2) <| middle d s 1 (p 1) <| middle d s 3 (p 3) k

/-- The last step, on the four streams. -/
def lastStep (d : Dev nD) (k : Prog (Eff F) PUnit.{1}) : Prog (Eff F) PUnit.{1} :=
  parts xM wM d 15 fun p =>
  last cM oM 0 (p 0) <| last cM oM 2 (p 2) <| last cM oM 1 (p 1) <| last cM oM 3 (p 3) k

/-- At the end, wait for the last two departures of a stream. -/
def drain (q : Fin 4) (k : Prog (Eff F) PUnit.{1}) : Prog (Eff F) PUnit.{1} := awaitSend q 0 (awaitSend q 1 k)

/-- The steps from `s` on, `n` of them. -/
def steps (d : Dev nD) : (n s : ℕ) → (h : s + n ≤ 16) → Prog (Eff F) PUnit.{1} → Prog (Eff F) PUnit.{1}
  | 0, _, _, k => k
  | n + 1, s, h, k => step xM wM d ⟨s, by omega⟩ (steps d n (s + 1) (by omega) k)

/-- The body. -/
def prog : Prog (Eff F) PUnit.{1} :=
  .op .deviceId fun d =>
  signal (left d) bar <| signal (right d) bar <| .op (.semWait bar (2#32).toInt) fun _ =>
  first xM wM d 0 <| first xM wM d 2 <| first xM wM d 1 <| first xM wM d 3 <|
  steps xM wM d 14 1 (by decide) <| lastStep xM wM cM oM d <|
  drain 0 <| drain 1 <| drain 2 <| drain 3 <| .ret ⟨⟩
end

set_option maxRecDepth 65536 in
/-- The printed body is this program. -/
theorem body_eq (xM : Memref sig .tc .vmem S4096x256 .i8) (hx : xM.IsWhole) (wM : Memref sig .tc .vmem S256x8192 .i8) (hw : wM.IsWhole)
    (cM : Memref sig .tc .smem S1x1 .f32) (hc : cM.IsWhole) (oM : Memref sig .tc .vmem S256x8192 .f32) (ho : oM.IsWhole) :
    cc0_body (F := F) xM hx wM hw cM hc oM ho (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      cc0_scratch8 cc0_scratch9 cc0_scratch10 cc0_scratch11 cc0_scratch12 cc0_scratch13 cc0_scratch14 cc0_scratch15
      cc0_scratch16 cc0_scratch17 cc0_scratch18 cc0_scratch19
    = prog xM wM cM oM := by
  rfl

end Cert.KernelIdeal.Ring

end
-- ==== Proof.Ring.Values.lean ====
/- The messages that travel round the ring, as functions of every device's operands. -/
module

public import proofs.«01_k».proof.Proof.Ring.Body

@[expose] public section

noncomputable section

namespace Cert.KernelIdeal.Ring

open Idealize.ShloMosaic Idealize.ShloMosaic.TcCoe Idealize.SL.Sem
open Facts₀ Facts

variable {F : FTy → Type} [FloatOps F]

/-- A step, as an index. -/
def stepOf (k : ℕ) : Fin 16 := ⟨k % 16, Nat.mod_lt _ (by decide)⟩

theorem stepOf_eq {k : ℕ} (h : k < 16) : stepOf k = ⟨k, h⟩ := Fin.ext (Nat.mod_eq_of_lt h)

variable (X : Dev nD → Vec F S4096x256 .i8) (Wt : Dev nD → Vec F S256x8192 .i8)

/-- The row block device `c` multiplies at step `k` for stream `q`. -/
def xAt (c : Dev nD) (k : ℕ) (q : Fin 4) : Vec F S256x256 .i8 := fun i => X c ((chunkRect c (stepOf k) q).toLoadRect.idx i)

/-- The quarter of the columns of stream `q`. -/
def wAt (c : Dev nD) (q : Fin 4) : Vec F S256x2048 .i8 := fun i => Wt c ((quarterRect q).toLoadRect.idx i)

/-- The device's own part at step `k`. -/
def own (c : Dev nD) (k : ℕ) (q : Fin 4) : FVec F S256x2048 .f32 := part (xAt X c k q) (wAt Wt c q)

/-- Message `k` that device `c` sends on stream `q`: at step 0 its own block product, later what it got from
    the device before it with its own part added. -/
def msg : ℕ → Dev nD → Fin 4 → FVec F S1x256x2048 .bf16
  | 0, c, q => firstMsg (xAt X c 0 q) (wAt Wt c q)
  | k + 1, c, q => nextMsg (own X Wt c (k + 1) q) (msg k (up c q) q)

/-- The quarter `q` of device `c`'s result. -/
def result (sc : Dev nD → Elt F .f32) (c : Dev nD) (q : Fin 4) : FVec F S256x2048 .f32 :=
  finish (own X Wt c 15 q) (msg X Wt 14 (up c q) q) (sc c)

theorem left_right (c : Dev nD) : left (right c) = c := by revert c; decide
theorem right_left (c : Dev nD) : right (left c) = c := by revert c; decide

theorem up_down (c : Dev nD) : ∀ q, up (down c q) q = c
  | 0 | 1 => left_right c
  | 2 | 3 => right_left c

theorem down_up (c : Dev nD) : ∀ q, down (up c q) q = c
  | 0 | 1 => right_left c
  | 2 | 3 => left_right c

end Cert.KernelIdeal.Ring

end
-- ==== Proof.Ring.Slots.lean ====
/- Reading and writing one slot of a double buffer, through the slot itself or through the matrix it is. -/
module

public import proofs.«01_k».proof.Proof.Ring.Values

@[expose] public section

noncomputable section

namespace Cert.KernelIdeal.Ring

open Idealize.ShloMosaic Idealize.ShloMosaic.TcCoe Idealize.SL.Sem
open Facts₀ Facts

section
variable {Val : EltTy → Type} (A B : Memref sig .tc .vmem S2x256x2048 .bf16) (b b' : Fin 2)

/-- The elements of a slot, by either name. -/
theorem slot_set : (slotV A b).view.set = (A.view.slice (slotRect b)).set := View.set_reshape _ _

theorem slot_load_subset : A.view.setOn (slotRect b).toLoadRect.set ⊆ (slotV A b).view.set := by
  rw [slot_set, View.set_slice]; exact subset_of_eq rfl

theorem slot_store_subset : (A.access (slotRect b)).setOn Finset.univ ⊆ (slotV A b).view.set := by
  rw [slot_set]; exact subset_of_eq rfl

/-- What a slot holds. -/
def slotRead (f : A.view.ty.Contents Val) : (slotRect b).shape.Idx → Val .bf16 := A.view.readAt Val (slotRect b).toLoadRect f

/-- A store into a slot is what the slot then holds. -/
theorem slotRead_store (f : A.view.ty.Contents Val) (w : (slotRect b).shape.Idx → Val .bf16) :
    slotRead A b ((A.access (slotRect b)).write Val f w Finset.univ) = w :=
  View.read_write_univ (v := A.view.slice (slotRect b)) f w

/-- A copy of one slot into another leaves there what the first held. -/
theorem slotRead_copy (fs : A.view.ty.Contents Val) (fd : B.view.ty.Contents Val) :
    slotRead B b' ((slotV B b').view.write Val fd ((slotV A b).view.read Val fs) Finset.univ) = slotRead A b fs := by
  have h := View.read_write_univ (v := (slotV B b').view) fd ((slotV A b).view.read Val fs)
  funext i
  have h' := congrFun h ((Shape.reshapeEquiv (s := S1x256x2048) (s' := S256x2048) squeezes_S1x256x2048_S256x2048.numel_eq).symm i)
  have e (M : Memref sig .tc .vmem S2x256x2048 .bf16) (c : Fin 2) (g : M.view.ty.Contents Val) (j : S256x2048.Idx) :
      (slotV M c).view.read Val g j
        = slotRead M c g (Shape.reshapeEquiv (s := S1x256x2048) (s' := S256x2048) squeezes_S1x256x2048_S256x2048.numel_eq j) := rfl
  rw [e, e] at h'
  exact (congrArg _ (Equiv.apply_symm_apply _ i).symm).trans (h'.trans (congrArg _ (Equiv.apply_symm_apply _ i)))

end

variable (A : Memref sig .tc .vmem S2x256x2048 .bf16)

theorem mem_slotRect (b : Fin 2) (i : S2x256x2048.Idx) : i ∈ (slotRect b).set ↔ (i 0 : ℕ) = b.val := by
  rw [Rect.mem_set_unit]
  have h1 : (i 1 : ℕ) < 256 := (i 1).isLt
  have h2 : (i 2 : ℕ) < 2048 := (i 2).isLt
  constructor
  · intro h
    have h0 := h 0
    simp [S1x256x2048] at h0
    omega
  · intro h a
    match a with
    | 0 => simp [S1x256x2048]; omega
    | 1 => simp [S1x256x2048]; omega
    | 2 => simp [S1x256x2048]; omega

/-- The two slots of a double buffer are disjoint and make it up. -/
theorem slots_disjoint : Disjoint (slotV A 0).view.set (slotV A 1).view.set := by
  rw [slot_set, slot_set, View.set_slice, View.set_slice, Finset.disjoint_map]
  refine Finset.disjoint_left.mpr fun i h0 h1 => ?_
  rw [mem_slotRect] at h0 h1
  rw [h0] at h1
  exact absurd h1 (by decide)

theorem slots_union : (slotV A 0).view.set ∪ (slotV A 1).view.set = A.view.set := by
  rw [slot_set, slot_set, View.set_slice, View.set_slice, ← Finset.map_union]
  refine congrArg (Finset.map A.view.emb) (Finset.eq_univ_iff_forall.mpr fun i => ?_)
  have h : (i 0 : ℕ) < 2 := (i 0).isLt
  rw [Finset.mem_union, mem_slotRect, mem_slotRect]
  rcases Nat.lt_or_ge (i 0 : ℕ) 1 with h' | h'
  · exact .inl (by show (i 0 : ℕ) = 0; omega)
  · exact .inr (by show (i 0 : ℕ) = 1; omega)

theorem slot_nonempty (b : Fin 2) : (slotV A b).view.set.Nonempty :=
  Finset.card_pos.mp (by rw [View.card_set]; decide)

/-- What a slot's copy counts. -/
def N : ℕ := (slotV (snd 0) 0).view.dmaCredit

theorem snd_credit : ∀ q b, (slotV (snd q) b).view.dmaCredit = N
  | 0, _ | 1, _ | 2, _ | 3, _ => rfl

theorem rcv_credit : ∀ q b, (slotV (rcv q) b).view.dmaCredit = N
  | 0, _ | 1, _ | 2, _ | 3, _ => rfl

theorem N_pos : 0 < N := View.dmaCredit_pos _ (by decide)

end Cert.KernelIdeal.Ring

end
-- ==== Proof.Ring.Proto.lean ====
/- The protocol of the ring, written down semaphore by semaphore.

   On every device, for every stream `q` and slot `b`:
   * the arrival semaphore counts message `2 r + b` in its round `r`: the copy from the device before pays it, and
     with it comes the slot, holding that message; the device waits for it at the step after;
   * the departure semaphore counts the same messages of the device's own: its copy pays it, and the staging slot
     comes back; the device waits for it before it writes the slot again, and for the last two at the end;
   * the credit semaphore takes thirteen units in one round: the device after signals unit `t` at its step `t`, once
     it has read message `t - 1`; with the unit comes that it is ready for messages up to `t + 1`. The sender takes one
     unit before every message from the third on, and the units may come in faster than it takes them, which is
     why what it knows is the largest unit seen and not the last;
   * the barrier semaphore takes one unit from each neighbour, which says that it is ready for the first two
     messages.

   "Ready for message `k`" is: the slot of message `k` has been released often enough, and the arrival semaphore has
   reached that message's round. A slot that is released lies in an invariant, from which the sender takes it.

   A unit paid at step `s` is labelled `s + 2`, and whoever waits at step `s` waits for a unit labelled at most `s + 1`
   while all it still owes is labelled `s + 2` or more. So nobody waits in a circle. -/
module

public import proofs.«01_k».proof.Proof.Ring.Slots
public import proofs.«01_k».proof.Proof.Gen.KernelIdeal.Launch
public import proofs.«01_k».proof.Proof.Gen.KernelIdeal.Points
public import Idealize.ShloMosaic.Lib.Pipeline.RegionTalk
public import Idealize.ShloMosaic.Lib.Release

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Facts₀ Facts

variable {F : FTy → Type} [FloatOps F]

/-- A slot of a receive buffer: device, stream, slot. -/
abbrev Key : Type := Dev nD × Fin 4 × Fin 2

abbrev UU : Type := UR sig nD τ × (URounds (GSem nD τ sig) ℕ × USlots Key)

local notation "𝕄" => MT nD τ sig ℕ (Elt F) ℕ UU ℕ

abbrev EP : Emb (UR sig nD τ) (MT nD τ sig ℕ (Elt F) ℕ UU ℕ) := embL
abbrev EX : Emb (URounds (GSem nD τ sig) ℕ × USlots Key) (MT nD τ sig ℕ (Elt F) ℕ UU ℕ) := embR
abbrev ER : Emb (URounds (GSem nD τ sig) ℕ) (MT nD τ sig ℕ (Elt F) ℕ UU ℕ) := Emb.inl.trans EX
abbrev EK : Emb (USlots Key) (MT nD τ sig ℕ (Elt F) ℕ UU ℕ) := Emb.inr.trans EX

/-! ## The semaphores -/

abbrev barCell (c : Dev nD) : GSem nD τ sig := ((c : Thread nD τ), .reg bar)
abbrev crdCell (c : Dev nD) (q : Fin 4) : GSem nD τ sig := ((c : Thread nD τ), .reg (crd q))
abbrev sndCell (c : Dev nD) (q : Fin 4) (b : Fin 2) : GSem nD τ sig := ((c : Thread nD τ), .dma (semAt (sArr q) b))
abbrev rcvCell (c : Dev nD) (q : Fin 4) (b : Fin 2) : GSem nD τ sig := ((c : Thread nD τ), .dma (semAt (rArr q) b))

/-- What a semaphore is for. -/
inductive Role where
  | none
  | barrier
  | credit (q : Fin 4)
  | depart (q : Fin 4) (b : Fin 2)
  | arrive (q : Fin 4) (b : Fin 2)
  deriving DecidableEq

/-- The role of each semaphore, by its number. -/
def role : SemLoc sig → Role
  | .reg s => if h : s.val < 4 then .credit ⟨s.val, h⟩ else .barrier
  | .dma s =>
    if s.val < 4 then .none
    else if h : s.val < 12 then .depart ⟨(s.val - 4) / 2, by omega⟩ (slotOf s.val)
    else .arrive ⟨(s.val - 12) / 2, by have := s.isLt; simp only at this; omega⟩ (slotOf s.val)

theorem role_bar : role (.reg bar) = .barrier := by decide
theorem role_crd : ∀ q, role (.reg (crd q)) = .credit q := by decide
theorem role_snd : ∀ q b, role (.dma (semAt (sArr q) b)) = .depart q b := by decide
theorem role_rcv : ∀ q b, role (.dma (semAt (rArr q) b)) = .arrive q b := by decide

/-! ## Contents -/

/-- Slot `b` of a device's receive buffer, of its send buffer, held at `f`. -/
abbrev rcvPts (c : Dev nD) (q : Fin 4) (b : Fin 2) (f : Buf (Elt F) ((slotV (rcv q) b).view.loc (c : Thread nD τ))) : sProp 𝕄 :=
  (slotV (rcv q) b).view.loc (c : Thread nD τ) ↦[(slotV (rcv q) b).view.set]{fullShare} f
abbrev sndPts (c : Dev nD) (q : Fin 4) (b : Fin 2) (f : Buf (Elt F) ((slotV (snd q) b).view.loc (c : Thread nD τ))) : sProp 𝕄 :=
  (slotV (snd q) b).view.loc (c : Thread nD τ) ↦[(slotV (snd q) b).view.set]{fullShare} f

/-- A slot at contents not chosen. -/
abbrev rcvAny (c : Dev nD) (q : Fin 4) (b : Fin 2) : sProp 𝕄 := iprop(∃ f, rcvPts c q b f)
abbrev sndAny (c : Dev nD) (q : Fin 4) (b : Fin 2) : sProp 𝕄 := iprop(∃ f, sndPts c q b f)

/-- A receive slot holding the message `v`; a send slot holding it. -/
def rcvHas (c : Dev nD) (q : Fin 4) (b : Fin 2) (v : FVec F S1x256x2048 .bf16) : sProp 𝕄 :=
  iprop(∃ f, rcvPts c q b f ∗ ⌜slotRead (Val := Elt F) (rcv q) b f = v⌝)
def sndHas (c : Dev nD) (q : Fin 4) (b : Fin 2) (v : FVec F S1x256x2048 .bf16) : sProp 𝕄 :=
  iprop(∃ f, sndPts c q b f ∗ ⌜slotRead (Val := Elt F) (snd q) b f = v⌝)

/-- Device `d` is ready for message `k` of stream `q`. -/
def freed (d : Dev nD) (q : Fin 4) (k : ℕ) : sProp 𝕄 :=
  iprop(released EK (d, q, slotOf k) (k / 2 + 1) ∗ reached ER (rcvCell d q (slotOf k)) (k / 2))

instance freed_persistent (d : Dev nD) (q : Fin 4) (k : ℕ) : BI.Persistent (freed (F := F) d q k) := by unfold freed; infer_instance
instance freed_storable (d : Dev nD) (q : Fin 4) (k : ℕ) : BI.Storable (upEmb : UEmb _ 𝕄) (freed (F := F) d q k) := by
  unfold freed; infer_instance

/-- Device `d` is ready for messages up to `t + 1`. -/
def ready (d : Dev nD) (q : Fin 4) (t : ℕ) : sProp 𝕄 := iprop(freed d q t ∗ freed d q (t + 1))

instance ready_persistent (d : Dev nD) (q : Fin 4) (k : ℕ) : BI.Persistent (ready (F := F) d q k) := by unfold ready; infer_instance
instance ready_storable (d : Dev nD) (q : Fin 4) (k : ℕ) : BI.Storable (upEmb : UEmb _ 𝕄) (ready (F := F) d q k) := by
  unfold ready; infer_instance

theorem freed_mono {d : Dev nD} {q : Fin 4} {k k' : ℕ} (h : k' ≤ k) (hs : slotOf k' = slotOf k) :
    freed (F := F) d q k ⊢ freed d q k' := by
  unfold freed
  rw [hs]
  iintro ⟨H1, H2⟩
  isplitl [H1]
  · iapply (released_mono EK (Nat.succ_le_succ (Nat.div_le_div_right h))) $$ H1
  · iapply (reached_mono ER (Nat.div_le_div_right h)) $$ H2

/-- Unit `t` of the credits says enough for message `s`, for any `s ≤ t + 1`. -/
theorem ready_freed {d : Dev nD} {q : Fin 4} {t s : ℕ} (h : s ≤ t + 1) : ready (F := F) d q t ⊢ freed d q s := by
  unfold ready
  by_cases hp : s % 2 = (t + 1) % 2
  · iintro ⟨-, H⟩
    iapply (freed_mono h (Fin.ext hp)) $$ H
  · iintro ⟨H, -⟩
    iapply (freed_mono (k' := s) (k := t) (by omega) (Fin.ext (by show s % 2 = t % 2; omega))) $$ H

/-! ## The schedule -/

variable (X : Dev nD → Vec F S4096x256 .i8) (Wt : Dev nD → Vec F S256x8192 .i8)

/-- Who pays a semaphore, by its role: the barrier both neighbours (0 the right one, 1 the left one), a credit semaphore its
    thirteen units, a copy's semaphore one copy a round. -/
def roleDuties (r : ℕ) : Role → Finset ℕ
  | .barrier => if r = 0 then {0, 1} else ∅
  | .credit _ => if r = 0 then Finset.Icc 1 13 else ∅
  | .depart _ b | .arrive _ b => if 2 * r + b.val ≤ 14 then {0} else ∅
  | .none => ∅

def roleAmount : Role → ℕ
  | .barrier | .credit _ => 1
  | _ => N

/-- What a neighbour says at the barrier: it is ready for the first messages of the streams `q`, `q'` that go to it, and its
    credit semaphores of the streams `p`, `p'` that come from it are open. -/
def greet (c : Dev nD) (q q' p p' : Fin 4) : sProp 𝕄 :=
  iprop(ready (down c q) q 0 ∗ ready (down c q') q' 0 ∗ reached ER (crdCell (up c p) p) 0 ∗ reached ER (crdCell (up c p') p') 0)

instance greet_persistent (c : Dev nD) (q q' p p' : Fin 4) : BI.Persistent (greet (F := F) c q q' p p') := by unfold greet; infer_instance
instance greet_storable (c : Dev nD) (q q' p p' : Fin 4) : BI.Storable (upEmb : UEmb _ 𝕄) (greet (F := F) c q q' p p') := by
  unfold greet; infer_instance

/-- What comes with a payment. -/
def rolePayload (c : Dev nD) (r d : ℕ) : Role → sProp 𝕄
  | .barrier => if d = 0 then greet c 0 1 2 3 else greet c 2 3 0 1
  | .credit q => ready (down c q) q d
  | .depart q b => sndAny c q b
  | .arrive q b => rcvHas c q b (msg X Wt (2 * r + b.val) (up c q) q)
  | .none => iprop(emp)

theorem roleAmount_pos : ∀ ρ, 0 < roleAmount ρ
  | .barrier | .credit _ => Nat.one_pos
  | .depart _ _ | .arrive _ _ | .none => N_pos

/-- The schedule of every semaphore of every device. -/
def sched : Schedule (GSem nD τ sig) ℕ 𝕄 where
  duties g r := if g.1.2 = .tc then roleDuties r (role g.2) else ∅
  amount g _ _ := roleAmount (role g.2)
  payload g r d := rolePayload X Wt g.1.1 r d (role g.2)
  amount_pos _ _ _ _ := roleAmount_pos _

instance sched_storable (g : GSem nD τ sig) (r d : ℕ) : BI.Storable (upEmb : UEmb _ 𝕄) ((sched X Wt).payload g r d) := by
  show BI.Storable upEmb (rolePayload X Wt g.1.1 r d (role g.2))
  cases role g.2 <;> unfold rolePayload <;> try unfold rcvHas
  all_goals (repeat' split) <;> infer_instance

section Tables

variable (c : Dev nD) (q : Fin 4) (b : Fin 2)

theorem duties_bar : (sched X Wt).duties (barCell c) 0 = {0, 1} := by
  show (if (Proc.tc : Proc τ) = .tc then roleDuties 0 (role (.reg bar)) else ∅) = _
  rw [role_bar]; rfl
theorem duties_crd : (sched X Wt).duties (crdCell c q) 0 = Finset.Icc 1 13 := by
  show (if (Proc.tc : Proc τ) = .tc then roleDuties 0 (role (.reg (crd q))) else ∅) = _
  rw [role_crd]; rfl
theorem duties_snd (k : ℕ) (h : k < 15) : (sched X Wt).duties (sndCell c q (slotOf k)) (k / 2) = {0} := by
  show (if (Proc.tc : Proc τ) = .tc then roleDuties (k / 2) (role (.dma (semAt (sArr q) (slotOf k)))) else ∅) = _
  rw [role_snd, if_pos rfl]; exact if_pos (by show 2 * (k / 2) + k % 2 ≤ 14; omega)
theorem duties_rcv (k : ℕ) (h : k < 15) : (sched X Wt).duties (rcvCell c q (slotOf k)) (k / 2) = {0} := by
  show (if (Proc.tc : Proc τ) = .tc then roleDuties (k / 2) (role (.dma (semAt (rArr q) (slotOf k)))) else ∅) = _
  rw [role_rcv, if_pos rfl]; exact if_pos (by show 2 * (k / 2) + k % 2 ≤ 14; omega)

theorem amount_bar (r d : ℕ) : (sched X Wt).amount (barCell c) r d = 1 := by show roleAmount (role (.reg bar)) = 1; rw [role_bar]; rfl
theorem amount_crd (r d : ℕ) : (sched X Wt).amount (crdCell c q) r d = 1 := by show roleAmount (role (.reg (crd q))) = 1; rw [role_crd]; rfl
theorem amount_snd (r d : ℕ) : (sched X Wt).amount (sndCell c q b) r d = N := by
  show roleAmount (role (.dma (semAt (sArr q) b))) = N; rw [role_snd]; rfl
theorem amount_rcv (r d : ℕ) : (sched X Wt).amount (rcvCell c q b) r d = N := by
  show roleAmount (role (.dma (semAt (rArr q) b))) = N; rw [role_rcv]; rfl

theorem expect_bar : (sched X Wt).expect (barCell c) 0 = 2 := by
  unfold Schedule.expect Schedule.amountOf; rw [duties_bar]; simp only [amount_bar]; rfl
theorem expect_crd : (sched X Wt).expect (crdCell c q) 0 = 13 := by
  unfold Schedule.expect Schedule.amountOf; rw [duties_crd]; simp only [amount_crd]; rfl
theorem expect_snd (k : ℕ) (h : k < 15) : (sched X Wt).expect (sndCell c q (slotOf k)) (k / 2) = N := by
  unfold Schedule.expect Schedule.amountOf; rw [duties_snd X Wt c q k h, Finset.sum_singleton, amount_snd]
theorem expect_rcv (k : ℕ) (h : k < 15) : (sched X Wt).expect (rcvCell c q (slotOf k)) (k / 2) = N := by
  unfold Schedule.expect Schedule.amountOf; rw [duties_rcv X Wt c q k h, Finset.sum_singleton, amount_rcv]

theorem payload_bar (r : ℕ) : (sched X Wt).payload (barCell c) r 0 = greet c 0 1 2 3 := by
  show rolePayload X Wt c r 0 (role (.reg bar)) = _; rw [role_bar]; rfl
theorem payload_bar' (r : ℕ) : (sched X Wt).payload (barCell c) r 1 = greet c 2 3 0 1 := by
  show rolePayload X Wt c r 1 (role (.reg bar)) = _; rw [role_bar]; rfl
theorem payload_crd (r t : ℕ) : (sched X Wt).payload (crdCell c q) r t = ready (down c q) q t := by
  show rolePayload X Wt c r t (role (.reg (crd q))) = _; rw [role_crd]; rfl
theorem payload_snd (r d : ℕ) : (sched X Wt).payload (sndCell c q b) r d = sndAny c q b := by
  show rolePayload X Wt c r d (role (.dma (semAt (sArr q) b))) = _; rw [role_snd]; rfl
theorem payload_rcv (k d : ℕ) : (sched X Wt).payload (rcvCell c q (slotOf k)) (k / 2) d = rcvHas c q (slotOf k) (msg X Wt k (up c q) q) := by
  show rolePayload X Wt c (k / 2) d (role (.dma (semAt (rArr q) (slotOf k)))) = _; rw [role_rcv]
  show rcvHas c q (slotOf k) (msg X Wt (2 * (k / 2) + k % 2) (up c q) q) = _
  rw [Nat.div_add_mod]

theorem rest_bar : bigSep ((sched X Wt).duties (barCell c) 0 \ ∅) (fun d => (sched X Wt).payload (barCell c) 0 d)
    = iprop(greet c 0 1 2 3 ∗ greet c 2 3 0 1) := by
  rw [Finset.sdiff_empty, duties_bar, bigSep_insert (by decide), bigSep_singleton, payload_bar, payload_bar']; rfl
theorem rest_snd (k : ℕ) (h : k < 15) : bigSep ((sched X Wt).duties (sndCell c q (slotOf k)) (k / 2) \ ∅)
    (fun d => (sched X Wt).payload (sndCell c q (slotOf k)) (k / 2) d) = sndAny c q (slotOf k) := by
  rw [Finset.sdiff_empty, duties_snd X Wt c q k h, bigSep_singleton, payload_snd]
theorem rest_rcv (k : ℕ) (h : k < 15) : bigSep ((sched X Wt).duties (rcvCell c q (slotOf k)) (k / 2) \ ∅)
    (fun d => (sched X Wt).payload (rcvCell c q (slotOf k)) (k / 2) d) = rcvHas c q (slotOf k) (msg X Wt k (up c q) q) := by
  rw [Finset.sdiff_empty, duties_rcv X Wt c q k h, bigSep_singleton, payload_rcv]

/-- No duty is left once a semaphore has counted all it was to count. -/
theorem later_crd : ∀ r, 1 ≤ r → (sched X Wt).duties (crdCell c q) r = ∅ := fun r hr => by
  show (if (Proc.tc : Proc τ) = .tc then roleDuties r (role (.reg (crd q))) else ∅) = _
  rw [role_crd, if_pos rfl]; exact if_neg (by omega)
theorem later_bar : ∀ r, 1 ≤ r → (sched X Wt).duties (barCell c) r = ∅ := fun r hr => by
  show (if (Proc.tc : Proc τ) = .tc then roleDuties r (role (.reg bar)) else ∅) = _
  rw [role_bar, if_pos rfl]; exact if_neg (by omega)
theorem later_snd (k : ℕ) (hk : 15 ≤ k) : ∀ r, k / 2 ≤ r → (sched X Wt).duties (sndCell c q (slotOf k)) r = ∅ := fun r hr => by
  show (if (Proc.tc : Proc τ) = .tc then roleDuties r (role (.dma (semAt (sArr q) (slotOf k)))) else ∅) = _
  rw [role_snd, if_pos rfl]; exact if_neg (by show ¬ 2 * r + k % 2 ≤ 14; omega)
theorem later_rcv (k : ℕ) (hk : 15 ≤ k) : ∀ r, k / 2 ≤ r → (sched X Wt).duties (rcvCell c q (slotOf k)) r = ∅ := fun r hr => by
  show (if (Proc.tc : Proc τ) = .tc then roleDuties r (role (.dma (semAt (rArr q) (slotOf k)))) else ∅) = _
  rw [role_rcv, if_pos rfl]; exact if_neg (by show ¬ 2 * r + k % 2 ≤ 14; omega)

end Tables

/-! ## What is owed, and in which order -/

/-- Message `k`, owed to the device after. -/
def msgOwed (c : Dev nD) (q : Fin 4) (k : ℕ) : CellTallies nD τ sig ℕ := tallyAt (rcvCell (down c q) q (slotOf k)) (k + 2) N
/-- Credit `t`, owed to the device before. -/
def crdOwed (c : Dev nD) (q : Fin 4) (t : ℕ) : CellTallies nD τ sig ℕ := tallyAt (crdCell (up c q) q) (t + 2) 1
/-- What a stream still owes from message `m` and credit `t` on. -/
def owed (c : Dev nD) (q : Fin 4) (m t : ℕ) : CellTallies nD τ sig ℕ :=
  ∑ k ∈ Finset.Ico m 15, msgOwed c q k + ∑ t ∈ Finset.Ico t 14, crdOwed c q t

/-- The labels in use. -/
def L (g : GSem nD τ sig) : Finset ℕ := if g.1.2 = .tc then Finset.range 32 else ∅
/-- A label is its own rank. -/
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 32 := if_pos rfl

/-- Everything owed is labelled `n` or more. -/
def From (n : ℕ) (O : CellTallies nD τ sig ℕ) : Prop := ∀ g i, 0 < O g i → i ∈ L g ∧ n ≤ i

theorem From.mono {n n' : ℕ} {O : CellTallies nD τ sig ℕ} (h : From n O) (hn : n' ≤ n) : From n' O :=
  fun g i hi => ⟨(h g i hi).1, hn.trans (h g i hi).2⟩

theorem From.add {n : ℕ} {O O' : CellTallies nD τ sig ℕ} (h : From n O) (h' : From n O') : From n (O + O') := fun g i hi => by
  rw [Pi.add_apply, Finsupp.add_apply] at hi
  rcases Nat.add_pos_iff_pos_or_pos.mp hi with hi | hi
  · exact h g i hi
  · exact h' g i hi

theorem From.zero (n : ℕ) : From n 0 := fun _ _ hi => absurd hi (Nat.lt_irrefl 0)

theorem From.tally {n i : ℕ} (c : Dev nD) (sm : SemLoc sig) (k : ℕ) (hi : i < 32) (hn : n ≤ i) : From n (tallyAt ((c : Thread nD τ), sm) i k) :=
  fun g j hj => by
    rw [tallyAt_apply] at hj
    split at hj
    · next h => rw [h.1, h.2, L_tc]; exact ⟨Finset.mem_range.mpr hi, hn⟩
    · exact absurd hj (Nat.lt_irrefl 0)

theorem From.sum {n : ℕ} (s : Finset ℕ) (f : ℕ → CellTallies nD τ sig ℕ) (h : ∀ k ∈ s, From n (f k)) : From n (∑ k ∈ s, f k) := by
  induction s using Finset.induction_on with
  | empty => exact From.zero n
  | insert a s ha ih =>
    rw [Finset.sum_insert ha]
    exact (h a (Finset.mem_insert_self _ _)).add (ih fun k hk => h k (Finset.mem_insert_of_mem hk))

theorem owed_from (c : Dev nD) (q : Fin 4) {m t n : ℕ} (hm : n ≤ m + 2) (ht : n ≤ t + 2) : From n (owed c q m t) := by
  refine (From.sum _ _ fun k hk => ?_).add (From.sum _ _ fun k hk => ?_) <;> rw [Finset.mem_Ico] at hk
  · exact From.tally _ _ _ (by omega) (by omega)
  · exact From.tally _ _ _ (by omega) (by omega)

theorem Ico_pop {m n : ℕ} (h : m < n) : Finset.Ico m n = insert m (Finset.Ico (m + 1) n) := by
  ext i; simp only [Finset.mem_Ico, Finset.mem_insert]; omega
theorem not_mem_Ico_succ {m n : ℕ} : m ∉ Finset.Ico (m + 1) n := by simp

theorem owed_msg (c : Dev nD) (q : Fin 4) {m t : ℕ} (h : m < 15) : owed c q m t = owed c q (m + 1) t + msgOwed c q m := by
  unfold owed; rw [Ico_pop h, Finset.sum_insert not_mem_Ico_succ, add_comm (msgOwed c q m), add_right_comm]
theorem owed_crd (c : Dev nD) (q : Fin 4) {m t : ℕ} (h : t < 14) : owed c q m t = owed c q m (t + 1) + crdOwed c q t := by
  unfold owed; rw [Ico_pop h, Finset.sum_insert not_mem_Ico_succ, add_comm (crdOwed c q t), add_assoc]
theorem owed_none (c : Dev nD) (q : Fin 4) {m t : ℕ} (h : 15 ≤ m) (h' : 14 ≤ t) : owed c q m t = 0 := by
  unfold owed; rw [Finset.Ico_eq_empty_of_le h, Finset.Ico_eq_empty_of_le h', Finset.sum_empty, Finset.sum_empty, add_zero]

/-- Waiting for a unit labelled below everything owed. -/
theorem mayWait (c : Dev nD) (sm : SemLoc sig) {n : ℕ} {O : CellTallies nD τ sig ℕ} (hn : n < 32) (h : From (n + 1) O) :
    (levAts L lv : sProp 𝕄) ⊢ MayWait (c : Thread nD τ) sm n O :=
  Pipeline.mayWait_of_levAts (by rw [L_tc]; exact Finset.mem_range.mpr hn) fun g i hi => ⟨(h g i hi).1, (h g i hi).2⟩

end Cert.KernelIdeal.Ring

end
-- ==== Proof.Ring.Moves.lean ====
/- The moves of a stream: waiting for a message, for a departure, for a credit, returning a slot, sending. -/
module

public import proofs.«01_k».proof.Proof.Ring.Proto

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Facts₀ Facts

variable {F : FTy → Type} [FloatOps F]

local notation "𝕄" => MT nD τ sig ℕ (Elt F) ℕ UU ℕ

abbrev 𝒱₀ : Variants := Variants.none

/-- A program of device `c` runs to `Kt`. -/
abbrev runs (c : Dev nD) {α : Type} (p : Prog (Eff F) α) (Kt : α → sProp 𝕄) : sProp 𝕄 :=
  wp frame (wpE (defs₀ (F := F)) 𝒱₀ (c : Thread nD τ) none) Set.univ p Kt

/-- What a device owes, whatever it has waited for so far. -/
def owing (c : Dev nD) (O : CellTallies nD τ sig ℕ) : sProp 𝕄 := iprop(∃ W, owes (c : Thread nD τ) O W)

/-! ## The invariants -/

/-- A device's own semaphores, by stream: departures and arrivals by slot, and the credits. -/
abbrev Own : Type := Fin 4 × (Fin 2 ⊕ (Fin 2 ⊕ Unit))

def osem : Own → SemLoc sig
  | (q, .inl b) => .dma (semAt (sArr q) b)
  | (q, .inr (.inl b)) => .dma (semAt (rArr q) b)
  | (q, .inr (.inr _)) => .reg (crd q)

def barCells : Finset (GSem nD τ sig) := Finset.univ.image barCell
def ownCells : Finset (GSem nD τ sig) := Finset.univ.image fun x : Dev nD × Own => (((x.1 : Dev nD) : Thread nD τ), osem x.2)

theorem bar_mem (c : Dev nD) : barCell c ∈ barCells ∪ ownCells :=
  Finset.mem_union_left _ (Finset.mem_image_of_mem _ (Finset.mem_univ _))
theorem own_mem (c : Dev nD) (o : Own) : ((c : Thread nD τ), osem o) ∈ barCells ∪ ownCells :=
  Finset.mem_union_right _ (Finset.mem_image.mpr ⟨(c, o), Finset.mem_univ _, rfl⟩)

variable (X : Dev nD → Vec F S4096x256 .i8) (Wt : Dev nD → Vec F S256x8192 .i8)

/-- Every invariant of the ring: one a semaphore, one a receive slot. -/
def records (K : GSem nD τ sig → ℕ) (KS : Key → ℕ) : sProp 𝕄 :=
  iprop(bigSep (barCells ∪ ownCells) (fun g => cellInv ER (sched X Wt) (K g) g)
    ∗ bigSep (Finset.univ : Finset Key) (fun k => slotInv EK (KS k) k (rcvAny (F := F) k.1 k.2.1 k.2.2)))

variable (K : GSem nD τ sig → ℕ) (KS : Key → ℕ)

instance records_persistent : BI.Persistent (records X Wt K KS) := by unfold records; infer_instance

theorem rec_cell {g : GSem nD τ sig} (h : g ∈ barCells ∪ ownCells) : records X Wt K KS ⊢ cellInv ER (sched X Wt) (K g) g := by
  have e : bigSep (barCells ∪ ownCells) (fun g => cellInv ER (sched X Wt) (K g) g) ⊢ cellInv ER (sched X Wt) (K g) g := bigSep_elim h
  unfold records
  iintro ⟨H, -⟩
  iapply e $$ H
theorem rec_slot (c : Dev nD) (q : Fin 4) (b : Fin 2) :
    records X Wt K KS ⊢ slotInv EK (KS (c, q, b)) (c, q, b) (rcvAny (F := F) c q b) := by
  have e : bigSep (Finset.univ : Finset Key) (fun k => slotInv EK (KS k) k (rcvAny (F := F) k.1 k.2.1 k.2.2))
      ⊢ slotInv EK (KS (c, q, b)) (c, q, b) (rcvAny (F := F) c q b) := bigSep_elim (Finset.mem_univ (c, q, b))
  unfold records
  iintro ⟨-, H⟩
  iapply e $$ H

theorem rec_bar (c : Dev nD) : records X Wt K KS ⊢ cellInv ER (sched X Wt) (K (barCell c)) (barCell c) := rec_cell X Wt K KS (bar_mem c)
theorem rec_crd (c : Dev nD) (q : Fin 4) : records X Wt K KS ⊢ cellInv ER (sched X Wt) (K (crdCell c q)) (crdCell c q) :=
  rec_cell X Wt K KS (own_mem c (q, .inr (.inr ())))
theorem rec_snd (c : Dev nD) (q : Fin 4) (b : Fin 2) : records X Wt K KS ⊢ cellInv ER (sched X Wt) (K (sndCell c q b)) (sndCell c q b) :=
  rec_cell X Wt K KS (own_mem c (q, .inl b))
theorem rec_rcv (c : Dev nD) (q : Fin 4) (b : Fin 2) : records X Wt K KS ⊢ cellInv ER (sched X Wt) (K (rcvCell c q b)) (rcvCell c q b) :=
  rec_cell X Wt K KS (own_mem c (q, .inr (.inl b)))

/-! ## A stream's holdings -/

theorem bigSep_pop {m n : ℕ} (h : m < n) (Φ : ℕ → sProp 𝕄) :
    bigSep (Finset.Ico m n) Φ = iprop(Φ m ∗ bigSep (Finset.Ico (m + 1) n) Φ) := by
  rw [Ico_pop h]; exact bigSep_insert not_mem_Ico_succ

section Holdings
variable (c : Dev nD) (q : Fin 4)

/-- The device has taken in everything before message `k` in its slot; has seen off everything before message `k` in its slot. -/
def rcvPos (k : ℕ) : sProp 𝕄 := atPos ER (rcvCell c q (slotOf k)) (k / 2) ∅ 0
def sndPos (k : ℕ) : sProp 𝕄 := atPos ER (sndCell c q (slotOf k)) (k / 2) ∅ 0
/-- Message `k` is on its way out. -/
def pend (k : ℕ) : sProp 𝕄 := iprop(sndPos c q k ∗ cred (tallyAt (sndCell c q (slotOf k)) 0 N))
/-- The staging slot of message `k` is free. -/
def sndFree (k : ℕ) : sProp 𝕄 := iprop(sndPos c q k ∗ reached ER (sndCell c q (slotOf k)) (k / 2) ∗ sndAny c q (slotOf k))
/-- What sending message `k` uses up. -/
def msgTok (k : ℕ) : sProp 𝕄 :=
  iprop(dutyTok ER (rcvCell (down c q) q (slotOf k)) (k / 2) 0 ∗ dutyTok ER (sndCell c q (slotOf k)) (k / 2) 0
    ∗ writeTok EK (down c q, q, slotOf k) (k / 2 + 1))
/-- What waiting for message `k` uses up. -/
def msgCred (k : ℕ) : sProp 𝕄 := cred (tallyAt (rcvCell c q (slotOf k)) (k + 2) N)
/-- What giving, what waiting for a credit uses up. -/
def crdTok (t : ℕ) : sProp 𝕄 := dutyTok ER (crdCell (up c q) q) 0 t
def crdCred (t : ℕ) : sProp 𝕄 := cred (tallyAt (crdCell c q) (t + 2) 1)
/-- `j` units have been taken; what came with the units seen so far is known. -/
def crdPos (j : ℕ) : sProp 𝕄 :=
  iprop(∃ S : Finset ℕ, ⌜S ⊆ Finset.Icc 1 13 ∧ j ≤ S.card⌝ ∗ atPos ER (crdCell c q) 0 S j ∗ bigSep S (fun t => ready (down c q) q t))
/-- The credits after step `s`. -/
def credits (s : ℕ) : sProp 𝕄 :=
  if s ≤ 13 then iprop(crdPos c q (s - 1) ∗ bigSep (Finset.Ico s 14) (crdCred c q)) else atPos ER (crdCell c q) 1 ∅ 0

end Holdings

/-! ## The moves -/

section Moves
variable {X Wt K KS}
variable {c : Dev nD} {q : Fin 4}

/-- Wait for message `k` and read it. -/
theorem wp_get {k : ℕ} (hk : k < 15) {O : CellTallies nD τ sig ℕ} (hO : From (k + 3) O) {α : Type}
    (kont : Vec F S1x256x2048 .bf16 → Prog (Eff F) α) (Kt : α → sProp 𝕄) :
    iprop(records X Wt K KS ∗ levAts L lv ∗ rcvPos c q k ∗ msgCred c q k ∗ owing c O)
      ⊢ iprop(((owing c O ∗ rcvPos c q (k + 2) ∗ reached ER (rcvCell c q (slotOf (k + 2))) ((k + 2) / 2) ∗ rcvAny c q (slotOf k))
            -∗ runs c (kont (msg X Wt k (up c q) q)) Kt)
          -∗ runs c (awaitRecv q (slotOf k) (take q (slotOf k) kont)) Kt) := by
  have h2 : slotOf (k + 2) = slotOf k := Fin.ext (by show (k + 2) % 2 = k % 2; omega)
  have h3 : (k + 2) / 2 = k / 2 + 1 := by omega
  unfold rcvPos msgCred owing awaitRecv take
  rw [h2, h3]
  iintro ⟨#Hr, #Hlev, Hat, Hc, ⟨%W, HO⟩⟩ Hk
  iapply (Rounds.wp_wait_rest_token 𝒱₀ ER (sched X Wt) (c : Thread nD τ) none (κ := K (rcvCell c q (slotOf k)))
      (wpE_waitDma2_eq 𝒱₀ (c : Thread nD τ) none Set.univ) (Set.mem_univ _) (k + 2) (O := O) (W := W) (R := k / 2) (m := 0) (T := ∅)
      ((Nat.zero_add _).trans ((rcv_credit q _).trans (expect_rcv X Wt c q k hk).symm))) $$ [Hc HO Hat]
  · isplitr; · iapply (rec_rcv X Wt K KS c q (slotOf k)); iexact Hr
    isplitl [Hc]; · rw [rcv_credit]; iexact Hc
    isplitl [HO]; · iexact HO
    isplitr; · iapply (mayWait c _ (by omega) hO); iexact Hlev
    iexact Hat
  iintro ⟨HO, Hat, #Hre, Hpay⟩
  ihave Hp := (Entails.of_eq (rest_rcv X Wt c q k hk)) $$ Hpay
  unfold rcvHas
  icases Hp with ⟨%f, Hf, %hf⟩
  iapply (wp_load 𝒱₀ (c : Thread nD τ) none Set.univ (m := rcv q) (slot_load_subset (rcv q) (slotOf k))) $$ Hf
  iintro Hf
  rw [show (rcv q).view.readAt (Elt F) (slotRect (slotOf k)).toLoadRect f = msg X Wt k (up c q) q from hf]
  iapply Hk
  isplitl [HO]; · iexists _; iexact HO
  isplitl [Hat]; · iexact Hat
  isplitr; · iexact Hre
  iexists f; iexact Hf

/-- Wait until message `k` has left: its slot is free for message `k + 2`. -/
theorem wp_seeOff {k : ℕ} (hk : k < 15) {O : CellTallies nD τ sig ℕ} (hO : From 1 O) {α : Type}
    (kont : Prog (Eff F) α) (Kt : α → sProp 𝕄) :
    iprop(records X Wt K KS ∗ levAts L lv ∗ pend c q k ∗ owing c O)
      ⊢ iprop(((owing c O ∗ sndFree c q (k + 2)) -∗ runs c kont Kt) -∗ runs c (awaitSend q (slotOf k) kont) Kt) := by
  have h2 : slotOf (k + 2) = slotOf k := Fin.ext (by show (k + 2) % 2 = k % 2; omega)
  have h3 : (k + 2) / 2 = k / 2 + 1 := by omega
  unfold pend sndFree sndPos owing awaitSend
  rw [h2, h3]
  iintro ⟨#Hr, #Hlev, ⟨Hat, Hc⟩, ⟨%W, HO⟩⟩ Hk
  iapply (Rounds.wp_wait_rest_token 𝒱₀ ER (sched X Wt) (c : Thread nD τ) none (κ := K (sndCell c q (slotOf k)))
      (wpE_waitDma2_eq 𝒱₀ (c : Thread nD τ) none Set.univ) (Set.mem_univ _) 0 (O := O) (W := W) (R := k / 2) (m := 0) (T := ∅)
      ((Nat.zero_add _).trans ((snd_credit q _).trans (expect_snd X Wt c q k hk).symm))) $$ [Hc HO Hat]
  · isplitr; · iapply (rec_snd X Wt K KS c q (slotOf k)); iexact Hr
    isplitl [Hc]; · rw [snd_credit]; iexact Hc
    isplitl [HO]; · iexact HO
    isplitr; · iapply (mayWait c _ (by decide) hO); iexact Hlev
    iexact Hat
  iintro ⟨HO, Hat, #Hre, Hpay⟩
  ihave Hp := (Entails.of_eq (rest_snd X Wt c q k hk)) $$ Hpay
  iapply Hk
  isplitl [HO]; · iexists _; iexact HO
  isplitl [Hat]; · iexact Hat
  isplitr; · iexact Hre
  iexact Hp

/-- Store a message. -/
theorem wp_put {b : Fin 2} {v : FVec F S1x256x2048 .bf16} {α : Type} (kont : Prog (Eff F) α) (Kt : α → sProp 𝕄) :
    sndAny c q b ⊢ iprop((sndHas c q b v -∗ runs c kont Kt) -∗ runs c (put q b v kont) Kt) := by
  unfold put sndHas
  iintro ⟨%f, Hf⟩ Hk
  iapply (wp_load 𝒱₀ (c : Thread nD τ) none Set.univ (m := snd q) (slot_load_subset (snd q) b)) $$ Hf
  iintro Hf
  iapply (wp_store 𝒱₀ (c : Thread nD τ) none Set.univ (m := snd q) (slot_store_subset (snd q) b)) $$ Hf
  iintro Hf
  iapply Hk
  iexists _
  isplitl [Hf]; · iexact Hf
  ipureintro
  exact slotRead_store (snd q) b f v

/-- Send message `k`. -/
theorem wp_pass {k : ℕ} (hk : k < 15) {O₀ O : CellTallies nD τ sig ℕ} (hO : O₀ = O + msgOwed c q k) {α : Type}
    (kont : Prog (Eff F) α) (Kt : α → sProp 𝕄) :
    iprop(records X Wt K KS ∗ sndHas c q (slotOf k) (msg X Wt k c q) ∗ sndPos c q k ∗ reached ER (sndCell c q (slotOf k)) (k / 2)
        ∗ freed (down c q) q k ∗ msgTok c q k ∗ owing c O₀)
      ⊢ iprop(((owing c O ∗ pend c q k) -∗ runs c kont Kt) -∗ runs c (send c q (slotOf k) kont) Kt) := by
  unfold pend sndHas owing send freed msgTok
  iintro ⟨#Hr, ⟨%fs, Hs, %hfs⟩, Hat, #Hre, ⟨#Hrel, #Hrr⟩, ⟨Htr, Hts, Hw⟩, ⟨%W, HO⟩⟩ Hk
  ihave #Hsl := (rec_slot X Wt K KS (down c q) q (slotOf k)) $$ Hr
  imod (slot_take EK (S := rcvAny (F := F) (down c q) q (slotOf k)) (Set.mem_univ (KS (down c q, q, slotOf k))) (k / 2 + 1)) $$ [Hw] with ⟨%fd, Hd⟩
  · isplitr; · iexact Hsl
    isplitr; · iexact Hrel
    iexact Hw
  iapply (Rounds.wp_send_pointsTo 𝒱₀ ER (sched X Wt) (c : Thread nD τ) none (c' := (down c q : Thread nD τ)) (src := slotV (snd q) (slotOf k))
      (dst := slotV (rcv q) (slotOf k)) (sS := .dma (semAt (sArr q) (slotOf k))) (sem := .dma (semAt (rArr q) (slotOf k))) (q := fullShare) (fs := fs)
      (κ₁ := K (sndCell c q (slotOf k))) (κ₂ := K (rcvCell (down c q) q (slotOf k))) (r₁ := k / 2) (r₂ := k / 2) (d₁ := 0) (d₂ := 0) (fd := fd)
      (by rw [duties_snd X Wt c q k hk]; exact Finset.mem_singleton_self _)
      (by rw [duties_rcv X Wt (down c q) q k hk]; exact Finset.mem_singleton_self _)
      (k + 2) 0 N (rcv_credit q _) (amount_snd X Wt c q _ _ _) (amount_rcv X Wt (down c q) q _ _ _) O hO (W := W)
      (by rw [payload_snd]; iintro H; iexists fs; iexact H)
      (by
        rw [payload_rcv, up_down]
        unfold rcvHas
        iintro H
        iexists _
        isplitl [H]; · iexact H
        ipureintro
        exact (slotRead_copy (snd q) (rcv q) (slotOf k) (slotOf k) fs fd).trans hfs)) $$ [Hs Hd HO Hts Htr]
  · isplitr; · iapply (rec_snd X Wt K KS c q (slotOf k)); iexact Hr
    isplitr; · iapply (rec_rcv X Wt K KS (down c q) q (slotOf k)); iexact Hr
    isplitl [Hs]; · iexact Hs
    isplitl [Hd]; · iexact Hd
    isplitl [HO]; · iexact HO
    isplitl [Hts]; · iexact Hts
    isplitr; · iexact Hre
    isplitl [Htr]; · iexact Htr
    iexact Hrr
  iintro ⟨Hc, HO⟩
  iapply Hk
  isplitl [HO]; · iexists W; iexact HO
  isplitl [Hat]; · iexact Hat
  iexact Hc

/-- Give the slot of message `n` back, `n + 1` being the credit's number. -/
theorem wp_return {n : ℕ} (hn : n < 13) {O₀ O : CellTallies nD τ sig ℕ} (hO : O₀ = O + crdOwed c q (n + 1))
    (kont : Prog (Eff F) PUnit.{1}) (Kt : PUnit.{1} → sProp 𝕄) :
    iprop(records X Wt K KS ∗ readerAt EK (c, q, slotOf n) (n / 2 + 1) ∗ rcvAny c q (slotOf n)
        ∗ reached ER (rcvCell c q (slotOf (n + 2))) ((n + 2) / 2) ∗ freed c q (n + 1) ∗ crdTok c q (n + 1)
        ∗ reached ER (crdCell (up c q) q) 0 ∗ owing c O₀)
      ⊢ iprop(((owing c O ∗ readerAt EK (c, q, slotOf (n + 2)) ((n + 2) / 2 + 1) ∗ freed c q (n + 2)) -∗ runs c kont Kt)
          -∗ runs c (giveBack c (n + 1) q kont) Kt) := by
  have h2 : slotOf (n + 2) = slotOf n := Fin.ext (by show (n + 2) % 2 = n % 2; omega)
  have h3 : (n + 2) / 2 = n / 2 + 1 := by omega
  have hg : giveBack c (n + 1) q kont = signal (up c q) (crd q) kont := by
    unfold giveBack; rw [Nat.ble_eq_true_of_le (by omega)]; rfl
  have hS : iprop(rcvAny (F := F) c q (slotOf n) ∗ rcvAny c q (slotOf n)) ⊢ (False : sProp 𝕄) := slot_slot_false (slot_nonempty _ _)
  rw [hg]
  unfold signal owing crdTok
  iintro ⟨#Hr, Hrd, Hs, #Hre, #Hf, Ht, #Hr0, ⟨%W, HO⟩⟩ Hk
  ihave #Hsl := (rec_slot X Wt K KS c q (slotOf n)) $$ Hr
  imod (slot_release EK (S := rcvAny (F := F) c q (slotOf n)) (Set.mem_univ (KS (c, q, slotOf n))) hS (n / 2 + 1)) $$ [Hrd Hs] with ⟨Hrd, #Hrel⟩
  · isplitr; · iexact Hsl
    isplitl [Hrd] <;> iassumption
  ihave #Hf2 : freed c q (n + 2) $$ []
  · unfold freed
    rw [h2, h3]
    isplitr; · iexact Hrel
    iexact Hre
  iapply (Rounds.wp_signal 𝒱₀ ER (sched X Wt) (c : Thread nD τ) none (dst := (up c q : Thread nD τ)) (sem := crd q) (r := 0) (d := n + 1)
      (κ := K (crdCell (up c q) q)) (by rw [duties_crd]; exact Finset.mem_Icc.mpr ⟨by omega, by omega⟩) (amount_crd X Wt (up c q) q _ _) (n + 1 + 2) O hO)
    $$ [HO Ht]
  · isplitr; · iapply (rec_crd X Wt K KS (up c q) q); iexact Hr
    isplitl [HO]; · iexact HO
    isplitl [Ht]; · iexact Ht
    isplitr
    · rw [payload_crd, down_up]
      unfold ready
      isplitr; · iexact Hf
      iexact Hf2
    iexact Hr0
  iintro HO
  iapply Hk
  isplitl [HO]; · iexists W; iexact HO
  isplitl [Hrd]; · rw [h2, h3]; iexact Hrd
  iexact Hf2

theorem le_max {S : Finset ℕ} {j : ℕ} (hS : S ⊆ Finset.Icc 1 13) (hj : j + 1 ≤ S.card) : ∃ t ∈ S, j + 1 ≤ t := by
  by_contra h
  have hs : S ⊆ Finset.Icc 1 j := fun t ht => Finset.mem_Icc.mpr
    ⟨(Finset.mem_Icc.mp (hS ht)).1, Nat.le_of_lt_succ (Nat.lt_of_not_le fun h' => h ⟨t, ht, h'⟩)⟩
  have hc := Finset.card_le_card hs
  rw [Nat.card_Icc] at hc
  omega

/-- Wait for a credit: the receiver is ready for message `s + 2`. -/
theorem wp_credit {s : ℕ} (hs : s ≤ 12) {O : CellTallies nD τ sig ℕ} (hO : From (s + 4) O) {α : Type}
    (kont : Prog (Eff F) α) (Kt : α → sProp 𝕄) :
    iprop(records X Wt K KS ∗ levAts L lv ∗ credits c q (s + 1) ∗ owing c O)
      ⊢ iprop(((owing c O ∗ credits c q (s + 2) ∗ freed (down c q) q (s + 2)) -∗ runs c kont Kt) -∗ runs c (awaitCredit q kont) Kt) := by
  have hin : credits (F := F) c q (s + 1) = iprop(crdPos c q s ∗ crdCred c q (s + 1) ∗ bigSep (Finset.Ico (s + 2) 14) (crdCred c q)) := by
    unfold credits; rw [if_pos (show s + 1 ≤ 13 by omega), bigSep_pop (show s + 1 < 14 by omega)]; rfl
  rw [hin]
  unfold crdPos crdCred owing awaitCredit
  iintro ⟨#Hr, #Hlev, ⟨⟨%S, %hS, Hat, #Hold⟩, Hc, Hcs⟩, ⟨%W, HO⟩⟩ Hk
  haveI (t : ℕ) : BI.Persistent ((sched X Wt).payload (crdCell c q) 0 t) := by rw [payload_crd]; infer_instance
  -- what is known after the wait: the units seen before it and those it brought
  have hknown (S' : Finset ℕ) : iprop(bigSep S (fun t => ready (F := F) (down c q) q t)
      ∗ bigSep (S' \ S) (fun t => (sched X Wt).payload (crdCell c q) 0 t)) ⊢ bigSep (S ∪ (S' \ S)) (fun t => ready (F := F) (down c q) q t) := by
    rw [bigSep_union Finset.disjoint_sdiff]
    simp only [payload_crd]
    exact Entails.refl _
  have hfreed {T : Finset ℕ} (hT : T ⊆ Finset.Icc 1 13) (hc : s + 1 ≤ T.card) :
      bigSep T (fun t => ready (F := F) (down c q) q t) ⊢ freed (down c q) q (s + 2) := by
    obtain ⟨t, ht, hs⟩ := le_max hT hc
    exact (bigSep_elim ht).trans (ready_freed (by omega))
  by_cases h12 : s = 12
  · subst h12
    iapply (Rounds.wp_wait_rest_token 𝒱₀ ER (sched X Wt) (c : Thread nD τ) none (κ := K (crdCell c q))
        (wpE_semWait_eq 𝒱₀ (c : Thread nD τ) none Set.univ) (Set.mem_univ _) (12 + 1 + 2) (O := O) (W := W) (R := 0) (m := 12) (T := S)
        (expect_crd X Wt c q).symm) $$ [Hc HO Hat]
    · isplitr; · iapply (rec_crd X Wt K KS c q); iexact Hr
      isplitl [Hc]; · iexact Hc
      isplitl [HO]; · iexact HO
      isplitr; · iapply (mayWait c _ (n := 12 + 1 + 2) (by decide) hO); iexact Hlev
      iexact Hat
    iintro ⟨HO, Hat, -, #Hnew⟩
    ihave #Hall := (hknown ((sched X Wt).duties (crdCell c q) 0)) $$ []
    · isplitr; · iexact Hold
      iexact Hnew
    iapply Hk
    isplitl [HO]; · iexists _; iexact HO
    isplitl [Hat]
    · unfold credits; rw [if_neg (by decide)]; iexact Hat
    · iapply (hfreed (T := S ∪ ((sched X Wt).duties (crdCell c q) 0 \ S)) (by rw [duties_crd, Finset.union_sdiff_of_subset hS.1])
        (by rw [duties_crd, Finset.union_sdiff_of_subset hS.1]; decide))
      iexact Hall
  · iapply (Rounds.wp_wait 𝒱₀ ER (sched X Wt) (c : Thread nD τ) none (κ := K (crdCell c q)) (wpE_semWait_eq 𝒱₀ (c : Thread nD τ) none Set.univ)
      (Set.mem_univ _) (cr := Finsupp.single (s + 1 + 2) 1) (O := O) (W := W) {(.reg (crd q), s + 1 + 2)} (R := 0) (m := s) (T := S)
      (Util.total_single _ _) (image_single_subset _ _ _)) $$ [Hc HO Hat]
    · isplitr; · iapply (rec_crd X Wt K KS c q); iexact Hr
      isplitl [Hc]; · iexact Hc
      isplitl [HO]; · iexact HO
      isplitr; · iapply (mayWait c _ (n := s + 1 + 2) (by omega) hO); iexact Hlev
      iexact Hat
    iintro %S' ⟨%hS', HO, Hat, #Hnew⟩
    obtain ⟨hT, hd, hc⟩ := hS'
    rw [duties_crd] at hd
    have hcard : s + 1 ≤ S'.card := by
      rw [duties_crd, expect_crd, Finset.card_sdiff_of_subset hd, Nat.card_Icc] at hc
      have := Finset.card_le_card hd
      rw [Nat.card_Icc] at this
      change s + 1 + _ ≤ 13 at hc
      omega
    ihave #Hall := (hknown S') $$ []
    · isplitr; · iexact Hold
      iexact Hnew
    rw [Finset.union_sdiff_of_subset hT]
    iapply Hk
    isplitl [HO]; · iexists _; iexact HO
    isplitl [Hat Hcs]
    · unfold credits; rw [if_pos (show s + 2 ≤ 13 by omega)]
      isplitl [Hat]
      · unfold crdPos
        iexists S'
        isplitr; · ipureintro; exact ⟨hd, hcard⟩
        isplitl [Hat]; · iexact Hat
        iexact Hall
      · iexact Hcs
    · iapply (hfreed hd hcard); iexact Hall

end Moves

end Cert.KernelIdeal.Ring

end
-- ==== Proof.Ring.Streams.lean ====
/- One step of one stream: the first, one in between, the last, and the end. -/
module

public import proofs.«01_k».proof.Proof.Ring.Moves

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Facts₀ Facts

variable {F : FTy → Type} [FloatOps F]

local notation "𝕄" => MT nD τ sig ℕ (Elt F) ℕ UU ℕ

/-! ## What a stream holds between its steps -/

section States
variable (c : Dev nD) (q : Fin 4)

/-- What the gate of step `n + 1` needs. -/
def gateIn : ℕ → sProp 𝕄
  | 0 => iprop(sndFree c q 1 ∗ freed (down c q) q 1 ∗ credits c q 1)
  | n + 1 => iprop(pend c q n ∗ credits c q (n + 1))

/-- The device's own receive slots before step `n + 1`: both released, or at the end the one read last in hand. -/
def keep (n : ℕ) : sProp 𝕄 :=
  if n ≤ 13 then iprop(readerAt EK (c, q, slotOf n) (n / 2 + 1) ∗ readerAt EK (c, q, slotOf (n + 1)) ((n + 1) / 2 + 1) ∗ freed c q (n + 1))
  else rcvAny c q (slotOf (n + 1))

/-- What is left to use up before step `n + 1`. -/
def stock (n : ℕ) : sProp 𝕄 :=
  iprop(bigSep (Finset.Ico (n + 1) 15) (msgTok c q) ∗ bigSep (Finset.Ico n 15) (msgCred c q) ∗ bigSep (Finset.Ico (n + 1) 14) (crdTok c q))

/-- A stream before its step `n + 1`. -/
def before (n : ℕ) : sProp 𝕄 :=
  iprop(gateIn c q n ∗ pend c q n ∗ keep c q n ∗ rcvPos c q n ∗ rcvPos c q (n + 1) ∗ stock c q n)

/-- A stream before its step 0. -/
def fresh : sProp 𝕄 :=
  iprop(sndFree c q 0 ∗ freed (down c q) q 0 ∗ gateIn c q 0 ∗ keep c q 0 ∗ rcvPos c q 0 ∗ rcvPos c q 1 ∗ msgTok c q 0 ∗ stock c q 0)

/-- A stream after its last step: the two last departures still to be seen off. -/
def ended : sProp 𝕄 :=
  iprop(pend c q 13 ∗ pend c q 14 ∗ atPos ER (crdCell c q) 1 ∅ 0 ∗ rcvPos c q 15 ∗ rcvPos c q 16 ∗ rcvAny c q 0 ∗ rcvAny c q 1)

/-- A stream done with. -/
def spent : sProp 𝕄 :=
  iprop(sndPos c q 15 ∗ sndPos c q 16 ∗ atPos ER (crdCell c q) 1 ∅ 0 ∗ rcvPos c q 15 ∗ rcvPos c q 16 ∗ rcvAny c q 0 ∗ rcvAny c q 1 ∗ sndAny c q 0 ∗ sndAny c q 1)

end States

variable {X : Dev nD → Vec F S4096x256 .i8} {Wt : Dev nD → Vec F S256x8192 .i8} {K : GSem nD τ sig → ℕ} {KS : Key → ℕ}
variable {c : Dev nD} {q : Fin 4}

/-- The gate of step `n + 1`: the send slot and the receiver's slot of message `n + 1` are free. -/
theorem wp_gate {n : ℕ} (hn : n ≤ 13) {O : CellTallies nD τ sig ℕ} (hO : From (n + 3) O) (kont : Prog (Eff F) PUnit.{1}) (Kt : PUnit.{1} → sProp 𝕄) :
    iprop(records X Wt K KS ∗ levAts L lv ∗ gateIn c q n ∗ owing c O)
      ⊢ iprop(((owing c O ∗ sndFree c q (n + 1) ∗ freed (down c q) q (n + 1) ∗ credits c q (n + 1)) -∗ runs c kont Kt)
          -∗ runs c (gate (n + 1) q kont) Kt) := by
  cases n with
  | zero =>
    rw [show gate 1 q kont = kont from rfl]
    unfold gateIn
    iintro ⟨-, -, ⟨H1, H2, H3⟩, HO⟩ Hk
    iapply Hk
    isplitl [HO]; · iexact HO
    isplitl [H1]; · iexact H1
    isplitl [H2] <;> iassumption
  | succ n =>
    have hg : gate (n + 1 + 1) q kont = awaitSend q (slotOf n) (awaitCredit q kont) := by
      unfold gate
      rw [Nat.ble_eq_true_of_le (by omega), show slotOf (n + 1 + 1) = slotOf n from Fin.ext (by show (n + 1 + 1) % 2 = n % 2; omega)]
      rfl
    rw [hg]
    unfold gateIn
    iintro ⟨#Hr, #Hlev, ⟨Hp, Hc⟩, HO⟩ Hk
    iapply (wp_seeOff (k := n) (by omega) (hO.mono (by omega)) (awaitCredit q kont) Kt) $$ [Hp HO]
    · isplitr; · iexact Hr
      isplitr; · iexact Hlev
      isplitl [Hp] <;> iassumption
    iintro ⟨HO, Hs⟩
    iapply (wp_credit (s := n) (by omega) (hO.mono (by omega)) kont Kt) $$ [Hc HO]
    · isplitr; · iexact Hr
      isplitr; · iexact Hlev
      isplitl [Hc] <;> iassumption
    iintro ⟨HO, Hc, Hf⟩
    iapply Hk
    isplitl [HO]; · iexact HO
    isplitl [Hs]; · iexact Hs
    isplitl [Hf] <;> iassumption

/-- After reading message `n`: return its slot with credit `n + 1`, or keep it when it was the last but one. -/
theorem wp_keep {n : ℕ} (hn : n ≤ 13) {R : CellTallies nD τ sig ℕ} (kont : Prog (Eff F) PUnit.{1}) (Kt : PUnit.{1} → sProp 𝕄) :
    iprop(records X Wt K KS ∗ keep c q n ∗ rcvAny c q (slotOf n) ∗ reached ER (rcvCell c q (slotOf (n + 2))) ((n + 2) / 2)
        ∗ bigSep (Finset.Ico (n + 1) 14) (crdTok c q) ∗ reached ER (crdCell (up c q) q) 0 ∗ owing c (R + owed c q (n + 1) (n + 1)))
      ⊢ iprop(((owing c (R + owed c q (n + 1) (n + 2)) ∗ keep c q (n + 1) ∗ bigSep (Finset.Ico (n + 2) 14) (crdTok c q)) -∗ runs c kont Kt)
          -∗ runs c (giveBack c (n + 1) q kont) Kt) := by
  unfold keep
  rw [if_pos hn]
  by_cases h : n = 13
  · subst h
    rw [show giveBack c (13 + 1) q kont = kont from rfl, if_neg (by decide),
      show owed c q (13 + 1) (13 + 1) = owed c q (13 + 1) (13 + 2) from rfl]
    iintro ⟨-, -, Hs, -, Ht, -, HO⟩ Hk
    iapply Hk
    isplitl [HO]; · iexact HO
    isplitl [Hs]; · iexact Hs
    iexact Ht
  · rw [if_pos (by omega), bigSep_pop (by omega)]
    iintro ⟨#Hr, ⟨Hr0, Hr1, #Hf⟩, Hs, #Hre, ⟨Ht, Hts⟩, #Hc0, HO⟩ Hk
    iapply (wp_return (X := X) (Wt := Wt) (K := K) (KS := KS) (c := c) (q := q) (n := n) (by omega) (O₀ := R + owed c q (n + 1) (n + 1)) (O := R + owed c q (n + 1) (n + 2))
        (by rw [owed_crd c q (show n + 1 < 14 by omega), ← add_assoc]) kont Kt) $$ [Hr0 Hs Ht HO]
    · isplitr; · iexact Hr
      isplitl [Hr0]; · iexact Hr0
      isplitl [Hs]; · iexact Hs
      isplitr; · iexact Hre
      isplitr; · iexact Hf
      isplitl [Ht]; · iexact Ht
      isplitr; · iexact Hc0
      iexact HO
    iintro ⟨HO, Hr2, Hf2⟩
    iapply Hk
    isplitl [HO]; · iexact HO
    isplitr [Hts]
    · isplitl [Hr1]; · iexact Hr1
      isplitl [Hr2]; · iexact Hr2
      iexact Hf2
    iexact Hts

/-- A step between the first and the last. -/
theorem wp_middle {n : ℕ} (hn : n ≤ 13) {R : CellTallies nD τ sig ℕ} (hR : From (n + 3) R) (kont : Prog (Eff F) PUnit.{1}) (Kt : PUnit.{1} → sProp 𝕄) :
    iprop(records X Wt K KS ∗ levAts L lv ∗ reached ER (crdCell (up c q) q) 0 ∗ before c q n ∗ owing c (R + owed c q (n + 1) (n + 1)))
      ⊢ iprop(((before c q (n + 1) ∗ owing c (R + owed c q (n + 2) (n + 2))) -∗ runs c kont Kt)
          -∗ runs c (middle c (n + 1) q (own X Wt c (n + 1) q) kont) Kt) := by
  unfold middle
  rw [show n + 1 - 1 = n from rfl]
  unfold before stock
  rw [bigSep_pop (show n + 1 < 15 by omega), bigSep_pop (show n < 15 by omega)]
  iintro ⟨#Hr, #Hlev, #Hc0, ⟨Hg, Hp, Hk1, Hpos, Hpos', ⟨⟨Hm, Hms⟩, ⟨Hc, Hcs⟩, Hts⟩⟩, HO⟩ Hk
  iapply (wp_get (X := X) (Wt := Wt) (K := K) (KS := KS) (c := c) (q := q) (k := n) (by omega) (O := R + owed c q (n + 1) (n + 1)) (hR.add (owed_from c q (by omega) (by omega))) _ Kt) $$ [Hpos Hc HO]
  · isplitr; · iexact Hr
    isplitr; · iexact Hlev
    isplitl [Hpos]; · iexact Hpos
    isplitl [Hc] <;> iassumption
  iintro ⟨HO, Hpos, #Hre, Hs⟩
  iapply (wp_gate (X := X) (Wt := Wt) (K := K) (KS := KS) (c := c) (q := q) hn (O := R + owed c q (n + 1) (n + 1)) (hR.add (owed_from c q (by omega) (by omega))) _ Kt) $$ [Hg HO]
  · isplitr; · iexact Hr
    isplitr; · iexact Hlev
    isplitl [Hg] <;> iassumption
  unfold sndFree
  iintro ⟨HO, ⟨Hsp, #Hsr, Hsnd⟩, #Hfr, Hcr⟩
  iapply (wp_put (v := msg X Wt (n + 1) c q) _ Kt) $$ Hsnd
  iintro Hsnd
  iapply (wp_keep (X := X) (Wt := Wt) (K := K) (KS := KS) (c := c) (q := q) (R := R) hn _ Kt) $$ [Hk1 Hs Hts HO]
  · isplitr; · iexact Hr
    isplitl [Hk1]; · iexact Hk1
    isplitl [Hs]; · iexact Hs
    isplitr; · iexact Hre
    isplitl [Hts]; · iexact Hts
    isplitr; · iexact Hc0
    iexact HO
  iintro ⟨HO, Hk1, Hts⟩
  iapply (wp_pass (X := X) (Wt := Wt) (K := K) (KS := KS) (c := c) (q := q) (k := n + 1) (by omega) (O₀ := R + owed c q (n + 1) (n + 2)) (O := R + owed c q (n + 2) (n + 2))
      (by rw [owed_msg c q (show n + 1 < 15 by omega), ← add_assoc]) kont Kt) $$ [Hsnd Hsp Hm HO]
  · isplitr; · iexact Hr
    isplitl [Hsnd]; · iexact Hsnd
    isplitl [Hsp]; · iexact Hsp
    isplitr; · iexact Hsr
    isplitr; · iexact Hfr
    isplitl [Hm] <;> iassumption
  iintro ⟨HO, Hp'⟩
  iapply Hk
  isplitr [HO]
  · isplitl [Hp Hcr]; · unfold gateIn; isplitl [Hp] <;> iassumption
    isplitl [Hp']; · iexact Hp'
    isplitl [Hk1]; · iexact Hk1
    isplitl [Hpos']; · iexact Hpos'
    isplitl [Hpos]; · iexact Hpos
    isplitl [Hms]; · iexact Hms
    isplitl [Hcs] <;> iassumption
  iexact HO

/-- The two last departures. -/
theorem wp_drain (kont : Prog (Eff F) PUnit.{1}) (Kt : PUnit.{1} → sProp 𝕄) :
    iprop(records X Wt K KS ∗ levAts L lv ∗ ended c q ∗ owing c 0)
      ⊢ iprop(((spent c q ∗ owing c 0) -∗ runs c kont Kt) -∗ runs c (drain q kont) Kt) := by
  unfold drain ended spent
  iintro ⟨#Hr, #Hlev, ⟨Hp, Hp', Hc, Hpos, Hpos', Hs, Hs'⟩, HO⟩ Hk
  iapply (wp_seeOff (X := X) (Wt := Wt) (K := K) (KS := KS) (c := c) (q := q) (k := 14) (by decide) (From.zero 1) _ Kt) $$ [Hp' HO]
  · isplitr; · iexact Hr
    isplitr; · iexact Hlev
    isplitl [Hp'] <;> iassumption
  iintro ⟨HO, Hf'⟩
  iapply (wp_seeOff (X := X) (Wt := Wt) (K := K) (KS := KS) (c := c) (q := q) (k := 13) (by decide) (From.zero 1) _ Kt) $$ [Hp HO]
  · isplitr; · iexact Hr
    isplitr; · iexact Hlev
    isplitl [Hp] <;> iassumption
  unfold sndFree
  iintro ⟨HO, ⟨Hf, -, Hb⟩⟩
  icases Hf' with ⟨Hf', -, Hb'⟩
  iapply Hk
  isplitr [HO]
  · isplitl [Hf]; · iexact Hf
    isplitl [Hf']; · iexact Hf'
    isplitl [Hc]; · iexact Hc
    isplitl [Hpos]; · iexact Hpos
    isplitl [Hpos']; · iexact Hpos'
    isplitl [Hs]; · iexact Hs
    isplitl [Hs']; · iexact Hs'
    isplitl [Hb']; · iexact Hb'
    iexact Hb
  iexact HO

end Cert.KernelIdeal.Ring

end
-- ==== Proof.Ring.Steps.lean ====
/- A step of all four streams, and the steps one after the other. -/
module

public import proofs.«01_k».proof.Proof.Ring.Streams

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Facts₀ Facts

variable {F : FTy → Type} [FloatOps F]

local notation "𝕄" => MT nD τ sig ℕ (Elt F) ℕ UU ℕ

/-! ## The quarters of the output -/

section Out
variable (oM : Memref sig .tc .vmem S256x8192 .f32)

/-- The quarter a column lies in. -/
def quarterOf (i : S256x8192.Idx) : Fin 4 := ⟨(i 1).val / 2048, by have h : (i 1).val < 8192 := (i 1).isLt; omega⟩

/-- An index within its quarter. -/
def inQuarter (i : S256x8192.Idx) : S256x2048.Idx := fun
  | 0 => ⟨(i 0).val, (i 0).isLt⟩
  | 1 => ⟨(i 1).val % 2048, Nat.mod_lt _ (by decide)⟩

/-- Four quarters side by side. -/
def joined (r : Fin 4 → FVec F S256x2048 .f32) : Vec F S256x8192 .f32 := fun i => r (quarterOf i) (inQuarter i)

theorem quarter_emb (i : S256x8192.Idx) : (quarterRect (quarterOf i)).emb (inQuarter i) = i := by
  funext a
  apply Fin.ext
  match a with
  | 0 => show 0 + 1 * (i 0).val = (i 0).val; omega
  | 1 => show 2048 * ((i 1).val / 2048) + 1 * ((i 1).val % 2048) = (i 1).val; omega

theorem quarter_store (q : Fin 4) (f : oM.view.ty.Contents (Elt F)) (w : FVec F S256x2048 .f32) (i : S256x2048.Idx) :
    oM.view.read (Elt F) ((oM.access (quarterRect q)).write (Elt F) f w Finset.univ) ((quarterRect q).emb i) = w i :=
  congrFun (View.read_write_univ (v := oM.view.slice (quarterRect q)) f w) i

theorem quarter_other {q q' : Fin 4} (h : q' ≠ q) (f : oM.view.ty.Contents (Elt F)) (w : FVec F S256x2048 .f32) (i : S256x2048.Idx) :
    oM.view.read (Elt F) ((oM.access (quarterRect q)).write (Elt F) f w Finset.univ) ((quarterRect q').emb i)
      = oM.view.read (Elt F) f ((quarterRect q').emb i) := by
  refine View.read_slice_write_of_not_mem _ _ _ _ ?_
  rw [Rect.map_emb_univ, Rect.mem_set_unit]
  intro hall
  have h1 : 2048 * q.val ≤ 2048 * q'.val + 1 * (i 1).val ∧ 2048 * q'.val + 1 * (i 1).val < 2048 * q.val + 2048 := hall 1
  have h2 : (i 1).val < 2048 := (i 1).isLt
  exact h (Fin.ext (by omega))

/-- The output buffer, with the quarters in `D` written. -/
def outAt (c : Dev nD) (r : Fin 4 → FVec F S256x2048 .f32) (D : Finset (Fin 4)) : sProp 𝕄 :=
  iprop(∃ f : oM.view.ty.Contents (Elt F), ⌜∀ q ∈ D, ∀ i, oM.view.read (Elt F) f ((quarterRect q).emb i) = r q i⌝
    ∗ (oM.view.loc (c : Thread nD τ) ↦[oM.view.set]{fullShare} f))

theorem outAt_intro (c : Dev nD) (r : Fin 4 → FVec F S256x2048 .f32) (x : Vec F S256x8192 .f32) : ownsTc c oM fullShare x ⊢ outAt oM c r ∅ := by
  unfold ownsTc owns outAt
  iintro ⟨%f, -, Hf⟩
  iexists f
  isplitr
  · ipureintro; intro q hq; exact absurd hq (Finset.notMem_empty q)
  iexact Hf

theorem outAt_elim (c : Dev nD) (r : Fin 4 → FVec F S256x2048 .f32) {D : Finset (Fin 4)} (hD : ∀ q, q ∈ D) :
    outAt oM c r D ⊢ ownsTc c oM fullShare (joined r) := by
  unfold ownsTc owns outAt
  iintro ⟨%f, %h, Hf⟩
  iexists f
  isplitr
  · ipureintro
    funext i
    have := h (quarterOf i) (hD _) (inQuarter i)
    rwa [quarter_emb] at this
  iexact Hf

end Out

/-! ## Loads -/

section Loads
variable {xM : Memref sig .tc .vmem S4096x256 .i8} {wM : Memref sig .tc .vmem S256x8192 .i8}
variable {X : Dev nD → Vec F S4096x256 .i8} {Wt : Dev nD → Vec F S256x8192 .i8} {c : Dev nD}

/-- The two operands in their staging buffers. -/
def ins (xM : Memref sig .tc .vmem S4096x256 .i8) (wM : Memref sig .tc .vmem S256x8192 .i8)
    (X : Dev nD → Vec F S4096x256 .i8) (Wt : Dev nD → Vec F S256x8192 .i8) (c : Dev nD) : sProp 𝕄 :=
  iprop(ownsTc c xM fullShare (X c) ∗ ownsTc c wM fullShare (Wt c))

theorem wp_loads (s : ℕ) (q : Fin 4) (kont : Vec F S256x256 .i8 → Vec F S256x2048 .i8 → Prog (Eff F) PUnit.{1}) (Kt : PUnit.{1} → sProp 𝕄) :
    ins xM wM X Wt c ⊢ iprop((ins xM wM X Wt c -∗ runs c (kont (xAt X c s q) (wAt Wt c q)) Kt) -∗ runs c (loads xM wM c (stepOf s) q kont) Kt) := by
  unfold ins ownsTc owns loads
  iintro ⟨⟨%f, %hf, Hf⟩, ⟨%g, %hg, Hg⟩⟩ Hk
  iapply (wp_load 𝒱₀ (c : Thread nD τ) none Set.univ (m := xM) (View.setOn_subset_set _ _)) $$ Hf
  iintro Hf
  iapply (wp_load 𝒱₀ (c : Thread nD τ) none Set.univ (m := wM) (View.setOn_subset_set _ _)) $$ Hg
  iintro Hg
  have e1 : xM.view.readAt (Elt F) (chunkRect c (stepOf s) q).toLoadRect f = xAt X c s q := by
    funext i; exact congrFun hf _
  have e2 : wM.view.readAt (Elt F) (quarterRect q).toLoadRect g = wAt Wt c q := by
    funext i; exact congrFun hg _
  rw [e1, e2]
  iapply Hk
  isplitl [Hf]
  · iexists f; isplitr; · ipureintro; exact hf
    iexact Hf
  iexists g; isplitr; · ipureintro; exact hg
  iexact Hg

theorem wp_parts (s : ℕ) (kont : (Fin 4 → FVec F S256x2048 .f32) → Prog (Eff F) PUnit.{1}) (Kt : PUnit.{1} → sProp 𝕄) :
    ins xM wM X Wt c ⊢ iprop((ins xM wM X Wt c -∗ runs c (kont (own X Wt c s)) Kt) -∗ runs c (parts xM wM c (stepOf s) kont) Kt) := by
  unfold parts
  iintro Hi Hk
  iapply (wp_loads s 0 _ Kt) $$ Hi
  iintro Hi
  iapply (wp_loads s 1 _ Kt) $$ Hi
  iintro Hi
  iapply (wp_loads s 2 _ Kt) $$ Hi
  iintro Hi
  iapply (wp_loads s 3 _ Kt) $$ Hi
  iintro Hi
  have e : (fun q : Fin 4 => (match q with
      | 0 => part (xAt X c s 0) (wAt Wt c 0) | 1 => part (xAt X c s 1) (wAt Wt c 1)
      | 2 => part (xAt X c s 2) (wAt Wt c 2) | 3 => part (xAt X c s 3) (wAt Wt c 3) : FVec F S256x2048 .f32)) = own X Wt c s := by
    funext q
    match q with
    | 0 | 1 | 2 | 3 => rfl
  rw [← e]
  iapply Hk
  iexact Hi

end Loads

/-! ## The steps -/

/-- The same of each stream. -/
def each (P : Fin 4 → sProp 𝕄) : sProp 𝕄 := iprop(P 0 ∗ P 1 ∗ P 2 ∗ P 3)

instance each_persistent (P : Fin 4 → sProp 𝕄) [∀ q, BI.Persistent (P q)] : BI.Persistent (each P) := by unfold each; infer_instance

/-- The credit semaphores of the streams that come in are open. -/
def open0 (c : Dev nD) : sProp 𝕄 := each fun q => reached ER (crdCell (up c q) q) 0

instance open0_persistent (c : Dev nD) : BI.Persistent (open0 (F := F) c) := by unfold open0; infer_instance

theorem open0_at (c : Dev nD) : ∀ q, open0 (F := F) c ⊢ reached ER (crdCell (up c q) q) 0
  | 0 => by unfold open0 each; iintro ⟨H, -⟩; iexact H
  | 1 => by unfold open0 each; iintro ⟨-, H, -⟩; iexact H
  | 2 => by unfold open0 each; iintro ⟨-, -, H, -⟩; iexact H
  | 3 => by unfold open0 each; iintro ⟨-, -, -, H⟩; iexact H

/-- What the device still owes to all streams. -/
def debts (c : Dev nD) (m t : ℕ) : CellTallies nD τ sig ℕ := owed c 0 m t + owed c 1 m t + owed c 2 m t + owed c 3 m t

section Run
variable {xM : Memref sig .tc .vmem S4096x256 .i8} {wM : Memref sig .tc .vmem S256x8192 .i8}
variable {cM : Memref sig .tc .smem S1x1 .f32} {oM : Memref sig .tc .vmem S256x8192 .f32}
variable {X : Dev nD → Vec F S4096x256 .i8} {Wt : Dev nD → Vec F S256x8192 .i8} {K : GSem nD τ sig → ℕ} {KS : Key → ℕ} {c : Dev nD}

/-- Step 0 of a stream. -/
theorem wp_first (q : Fin 4) {O : CellTallies nD τ sig ℕ} (kont : Prog (Eff F) PUnit.{1}) (Kt : PUnit.{1} → sProp 𝕄) :
    iprop(records X Wt K KS ∗ ins xM wM X Wt c ∗ fresh c q ∗ owing c (O + owed c q 0 1))
      ⊢ iprop(((ins xM wM X Wt c ∗ before c q 0 ∗ owing c (O + owed c q 1 1)) -∗ runs c kont Kt)
          -∗ runs c (first xM wM c q kont) Kt) := by
  unfold first fresh before sndFree
  rw [show (0 : Fin 16) = stepOf 0 from rfl, show (0 : Fin 2) = slotOf 0 from rfl]
  iintro ⟨#Hr, Hi, ⟨⟨Hsp, #Hsr, Hsnd⟩, #Hfr, Hg, Hk1, Hp0, Hp1, Hm, Hst⟩, HO⟩ Hk
  iapply (wp_loads 0 q _ Kt) $$ Hi
  iintro Hi
  iapply (wp_put (v := msg X Wt 0 c q) _ Kt) $$ Hsnd
  iintro Hsnd
  iapply (wp_pass (X := X) (Wt := Wt) (K := K) (KS := KS) (c := c) (q := q) (k := 0) (by decide) (O₀ := O + owed c q 0 1) (O := O + owed c q 1 1)
      (by rw [owed_msg c q (show 0 < 15 by omega), ← add_assoc]) kont Kt) $$ [Hsnd Hsp Hm HO]
  · isplitr; · iexact Hr
    isplitl [Hsnd]; · iexact Hsnd
    isplitl [Hsp]; · iexact Hsp
    isplitr; · iexact Hsr
    isplitr; · iexact Hfr
    isplitl [Hm] <;> iassumption
  iintro ⟨HO, Hp⟩
  iapply Hk
  isplitl [Hi]; · iexact Hi
  isplitr [HO]
  · isplitl [Hg]; · iexact Hg
    isplitl [Hp]; · iexact Hp
    isplitl [Hk1]; · iexact Hk1
    isplitl [Hp0]; · iexact Hp0
    isplitl [Hp1] <;> iassumption
  iexact HO

theorem pull0 {M : Type} [AddCommMonoid M] (x y z w : M) : x + y + z + w = y + z + w + x := by
  rw [add_assoc, add_assoc, add_comm x, ← add_assoc y]

theorem pull2 {M : Type} [AddCommMonoid M] (x y z w : M) : x + y + z + w = x + y + w + z := add_right_comm _ _ _

theorem pull1 {M : Type} [AddCommMonoid M] (x y z w : M) : x + y + z + w = x + z + w + y := by
  rw [add_right_comm x y z, add_right_comm]

/-- A stream's part of a step, beside what is owed to the others. -/
theorem wp_middle' {n : ℕ} (hn : n ≤ 13) (q : Fin 4) {O O' : CellTallies nD τ sig ℕ} (R : CellTallies nD τ sig ℕ)
    (hO : O = R + owed c q (n + 1) (n + 1)) (hO' : O' = R + owed c q (n + 2) (n + 2)) (hR : From (n + 3) R)
    (k : Prog (Eff F) PUnit.{1}) (Kt : PUnit.{1} → sProp 𝕄) :
    iprop(records X Wt K KS ∗ levAts L lv ∗ open0 c ∗ before c q n ∗ owing c O)
      ⊢ iprop(((before c q (n + 1) ∗ owing c O') -∗ runs c k Kt) -∗ runs c (middle c (n + 1) q (own X Wt c (n + 1) q) k) Kt) := by
  rw [hO, hO']
  refine BIBase.Entails.trans ?_ (wp_middle (X := X) (Wt := Wt) (K := K) (KS := KS) hn hR k Kt)
  iintro ⟨Hr, Hl, Ho, Hb⟩
  isplitl [Hr]; · iexact Hr
  isplitl [Hl]; · iexact Hl
  isplitl [Ho]; · iapply (open0_at c q) $$ Ho
  iexact Hb

/-- What is owed when the streams have done with different steps. -/
def debts4 (c : Dev nD) (a0 a1 a2 a3 : ℕ) : CellTallies nD τ sig ℕ := owed c 0 a0 a0 + owed c 1 a1 a1 + owed c 2 a2 a2 + owed c 3 a3 a3

theorem debts4_0 (c : Dev nD) (a0 a1 a2 a3 : ℕ) :
    debts4 c a0 a1 a2 a3 = (owed c 1 a1 a1 + owed c 2 a2 a2 + owed c 3 a3 a3) + owed c 0 a0 a0 := pull0 _ _ _ _

theorem debts4_1 (c : Dev nD) (a0 a1 a2 a3 : ℕ) :
    debts4 c a0 a1 a2 a3 = (owed c 0 a0 a0 + owed c 2 a2 a2 + owed c 3 a3 a3) + owed c 1 a1 a1 := pull1 _ _ _ _

theorem debts4_2 (c : Dev nD) (a0 a1 a2 a3 : ℕ) :
    debts4 c a0 a1 a2 a3 = (owed c 0 a0 a0 + owed c 1 a1 a1 + owed c 3 a3 a3) + owed c 2 a2 a2 := pull2 _ _ _ _

theorem debts4_3 (c : Dev nD) (a0 a1 a2 a3 : ℕ) :
    debts4 c a0 a1 a2 a3 = (owed c 0 a0 a0 + owed c 1 a1 a1 + owed c 2 a2 a2) + owed c 3 a3 a3 := rfl

theorem debts_eq (c : Dev nD) (a : ℕ) : debts c a a = debts4 c a a a a := rfl

/-- A step between the first and the last, on the four streams. -/
theorem wp_step {n : ℕ} (hn : n ≤ 13) (kont : Prog (Eff F) PUnit.{1}) (Kt : PUnit.{1} → sProp 𝕄) :
    iprop(records X Wt K KS ∗ levAts L lv ∗ open0 c ∗ ins xM wM X Wt c ∗ each (fun q => before c q n)
        ∗ owing c (debts c (n + 1) (n + 1)))
      ⊢ iprop(((ins xM wM X Wt c ∗ each (fun q => before c q (n + 1)) ∗ owing c (debts c (n + 2) (n + 2))) -∗ runs c kont Kt)
          -∗ runs c (step xM wM c (stepOf (n + 1)) kont) Kt) := by
  have hl (q : Fin 4) : From (n + 3) (owed c q (n + 1) (n + 1)) := owed_from c q (by omega) (by omega)
  have hl' (q : Fin 4) : From (n + 3) (owed c q (n + 2) (n + 2)) := owed_from c q (by omega) (by omega)
  have s0 := fun k => wp_middle' (X := X) (Wt := Wt) (K := K) (KS := KS) (c := c) hn 0 _ (debts4_0 c (n + 1) (n + 1) (n + 1) (n + 1))
    (debts4_0 c (n + 2) (n + 1) (n + 1) (n + 1)) (((hl 1).add (hl 2)).add (hl 3)) k Kt
  have s2 := fun k => wp_middle' (X := X) (Wt := Wt) (K := K) (KS := KS) (c := c) hn 2 _ (debts4_2 c (n + 2) (n + 1) (n + 1) (n + 1))
    (debts4_2 c (n + 2) (n + 1) (n + 2) (n + 1)) (((hl' 0).add (hl 1)).add (hl 3)) k Kt
  have s1 := fun k => wp_middle' (X := X) (Wt := Wt) (K := K) (KS := KS) (c := c) hn 1 _ (debts4_1 c (n + 2) (n + 1) (n + 2) (n + 1))
    (debts4_1 c (n + 2) (n + 2) (n + 2) (n + 1)) (((hl' 0).add (hl' 2)).add (hl 3)) k Kt
  have s3 := fun k => wp_middle' (X := X) (Wt := Wt) (K := K) (KS := KS) (c := c) hn 3 _ (debts4_3 c (n + 2) (n + 2) (n + 2) (n + 1))
    (debts4_3 c (n + 2) (n + 2) (n + 2) (n + 2)) (((hl' 0).add (hl' 1)).add (hl' 2)) k Kt
  rw [debts_eq, debts_eq]
  unfold step each
  rw [show (stepOf (n + 1)).val = n + 1 from Nat.mod_eq_of_lt (by omega)]
  iintro ⟨#Hr, #Hlev, #Ho, Hi, ⟨H0, H1, H2, H3⟩, HO⟩ Hk
  iapply (wp_parts (n + 1) _ Kt) $$ Hi
  iintro Hi
  iapply (s0 _) $$ [H0 HO]
  · isplitr; · iexact Hr
    isplitr; · iexact Hlev
    isplitr; · iexact Ho
    isplitl [H0]; · iexact H0
    iexact HO
  iintro ⟨H0, HO⟩
  iapply (s2 _) $$ [H2 HO]
  · isplitr; · iexact Hr
    isplitr; · iexact Hlev
    isplitr; · iexact Ho
    isplitl [H2]; · iexact H2
    iexact HO
  iintro ⟨H2, HO⟩
  iapply (s1 _) $$ [H1 HO]
  · isplitr; · iexact Hr
    isplitr; · iexact Hlev
    isplitr; · iexact Ho
    isplitl [H1]; · iexact H1
    iexact HO
  iintro ⟨H1, HO⟩
  iapply (s3 _) $$ [H3 HO]
  · isplitr; · iexact Hr
    isplitr; · iexact Hlev
    isplitr; · iexact Ho
    isplitl [H3]; · iexact H3
    iexact HO
  iintro ⟨H3, HO⟩
  iapply Hk
  isplitl [Hi]; · iexact Hi
  isplitr [HO]
  · isplitl [H0]; · iexact H0
    isplitl [H1]; · iexact H1
    isplitl [H2] <;> iassumption
  iexact HO

/-- The steps from `n + 1` up to 14. -/
theorem wp_steps (kont : Prog (Eff F) PUnit.{1}) (Kt : PUnit.{1} → sProp 𝕄) : ∀ (m n : ℕ) (h : n + 1 + m ≤ 16), n + m = 14 →
    iprop(records X Wt K KS ∗ levAts L lv ∗ open0 c ∗ ins xM wM X Wt c ∗ each (fun q => before c q n)
        ∗ owing c (debts c (n + 1) (n + 1)))
      ⊢ iprop(((ins xM wM X Wt c ∗ each (fun q => before c q 14) ∗ owing c (debts c 15 15)) -∗ runs c kont Kt)
          -∗ runs c (steps xM wM c m (n + 1) h kont) Kt)
  | 0, n, h, e => by
    obtain rfl : n = 14 := e
    unfold steps
    iintro ⟨-, -, -, Hi, Hb, HO⟩ Hk
    iapply Hk
    isplitl [Hi]; · iexact Hi
    isplitl [Hb]; · iexact Hb
    iassumption
  | m + 1, n, h, e => by
    unfold steps
    rw [← stepOf_eq]
    iintro ⟨#Hr, #Hlev, #Ho, Hi, Hb, HO⟩ Hk
    iapply (wp_step (X := X) (Wt := Wt) (K := K) (KS := KS) (n := n) (by omega) _ Kt) $$ [Hi Hb HO]
    · isplitr; · iexact Hr
      isplitr; · iexact Hlev
      isplitr; · iexact Ho
      isplitl [Hi]; · iexact Hi
      isplitl [Hb] <;> iassumption
    iintro ⟨Hi, Hb, HO⟩
    iapply (wp_steps kont Kt m (n + 1) _ (by omega)) $$ [Hi Hb HO]
    · isplitr; · iexact Hr
      isplitr; · iexact Hlev
      isplitr; · iexact Ho
      isplitl [Hi]; · iexact Hi
      isplitl [Hb] <;> iassumption
    iexact Hk

/-- The factor on the result. -/
def scOf (Sc : Dev nD → Vec F S1x1 .f32) (c : Dev nD) : Elt F .f32 :=
  Sc c ((Rect.unit (s := S1x1) ![0, 0] S1x1.size inb_S1x1_S1x1_0_0).toLoadRect.idx (Shape.Idx.first (numel1_S1x1.symm ▸ Nat.one_pos)))

/-- The last step of a stream. -/
theorem wp_last {Sc : Dev nD → Vec F S1x1 .f32} (q : Fin 4) (D : Finset (Fin 4)) (hD : q ∉ D) (kont : Prog (Eff F) PUnit.{1}) (Kt : PUnit.{1} → sProp 𝕄) :
    iprop(records X Wt K KS ∗ levAts L lv ∗ before c q 14 ∗ ownsTc c cM fullShare (Sc c) ∗ outAt oM c (result X Wt (scOf Sc) c) D ∗ owing c 0)
      ⊢ iprop(((ended c q ∗ ownsTc c cM fullShare (Sc c) ∗ outAt oM c (result X Wt (scOf Sc) c) (insert q D) ∗ owing c 0) -∗ runs c kont Kt)
          -∗ runs c (last cM oM q (own X Wt c 15 q) kont) Kt) := by
  unfold last before stock ended keep outAt
  rw [show gateIn (F := F) c q 14 = iprop(pend c q 13 ∗ atPos ER (crdCell c q) 1 ∅ 0) from rfl, if_neg (by decide), bigSep_pop (show 14 < 15 by omega), show (0 : Fin 2) = slotOf 14 from rfl]
  unfold ownsTc owns
  iintro ⟨#Hr, #Hlev, ⟨⟨Hp, Hcr⟩, Hp', Hk1, Hpos, Hpos', ⟨-, ⟨Hc, -⟩, -⟩⟩, ⟨%g, %hg, Hg⟩, ⟨%f, %hf, Hf⟩, HO⟩ Hk
  iapply (wp_get (X := X) (Wt := Wt) (K := K) (KS := KS) (c := c) (q := q) (k := 14) (by decide) (From.zero 17) _ Kt) $$ [Hpos Hc HO]
  · isplitr; · iexact Hr
    isplitr; · iexact Hlev
    isplitl [Hpos]; · iexact Hpos
    isplitl [Hc] <;> iassumption
  iintro ⟨HO, Hpos, -, Hs⟩
  iapply (wp_load 𝒱₀ (c : Thread nD τ) none Set.univ (m := cM) (View.setOn_subset_set _ _)) $$ Hg
  iintro Hg
  iapply (wp_load 𝒱₀ (c : Thread nD τ) none Set.univ (m := oM) (View.setOn_subset_set _ _)) $$ Hf
  iintro Hf
  iapply (wp_store 𝒱₀ (c : Thread nD τ) none Set.univ (m := oM) (r := quarterRect q)
      (S := oM.view.set) (f := f) ((View.setOn_subset_set (oM.access (quarterRect q)) _).trans (View.set_slice_subset oM.view (quarterRect q)))) $$ Hf
  iintro Hf
  iapply Hk
  isplitr [Hg Hf HO]
  · isplitl [Hp]; · iexact Hp
    isplitl [Hp']; · iexact Hp'
    isplitl [Hcr]; · iexact Hcr
    isplitl [Hpos']; · iexact Hpos'
    isplitl [Hpos]; · iexact Hpos
    isplitl [Hs]; · iexact Hs
    iexact Hk1
  isplitl [Hg]
  · iexists g; isplitr; · ipureintro; exact hg
    iexact Hg
  isplitr [HO]
  · iexists _
    isplitr [Hf]; rotate_left; · iexact Hf
    ipureintro
    intro q' hq' i
    by_cases h : q' = q
    · subst h
      refine (quarter_store oM _ _ _ _).trans ?_
      unfold result scOf
      rw [← hg]
      rfl
    · exact (quarter_other oM h _ _ i).trans (hf q' ((Finset.mem_insert.mp hq').resolve_left h) i)
  iexact HO

theorem debts_none : debts c 15 15 = 0 := by
  unfold debts
  rw [owed_none c 0 (by omega) (by omega), owed_none c 1 (by omega) (by omega), owed_none c 2 (by omega) (by omega), owed_none c 3 (by omega) (by omega),
    add_zero, add_zero, add_zero]

end Run

end Cert.KernelIdeal.Ring

end
-- ==== Proof.Ring.Entry.lean ====
/- Entering and leaving the ring: a device makes its receive slots over to the invariants and says so at the barrier; at the
   end it takes the slots and the counters back. -/
module

public import proofs.«01_k».proof.Proof.Ring.Steps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Facts₀ Facts

variable {F : FTy → Type} [FloatOps F]

local notation "𝕄" => MT nD τ sig ℕ (Elt F) ℕ UU ℕ

/-! ## One assertion for each stream -/

theorem each_eq (P : Fin 4 → sProp 𝕄) : bigSep Finset.univ P = each P := by
  rw [show (Finset.univ : Finset (Fin 4)) = {0, 1, 2, 3} from by decide, bigSep_insert (by decide), bigSep_insert (by decide),
    bigSep_insert (by decide), bigSep_singleton]
  rfl

theorem each_mono {P Q : Fin 4 → sProp 𝕄} (h : ∀ q, P q ⊢ Q q) : each P ⊢ each Q := by
  rw [← each_eq, ← each_eq]; exact bigSep_mono fun q _ => h q

theorem each_sep (P Q : Fin 4 → sProp 𝕄) : each (fun q => iprop(P q ∗ Q q)) = iprop(each P ∗ each Q) := by
  rw [← each_eq, ← each_eq, ← each_eq]; exact bigSep_sep' _ _ _

/-- A step of every stream that changes the ghost state, with something all streams may consult. -/
theorem each_fupd {R : sProp 𝕄} [BI.Persistent R] {P Q : Fin 4 → sProp 𝕄} (h : ∀ q, iprop(R ∗ P q) ⊢ iprop(|={Set.univ}=> Q q)) :
    iprop(R ∗ each P) ⊢ iprop(|={Set.univ}=> each Q) := by
  unfold each
  iintro ⟨#HR, H0, H1, H2, H3⟩
  imod (h 0) $$ [H0] with H0
  · isplitr; · iexact HR
    iexact H0
  imod (h 1) $$ [H1] with H1
  · isplitr; · iexact HR
    iexact H1
  imod (h 2) $$ [H2] with H2
  · isplitr; · iexact HR
    iexact H2
  imod (h 3) $$ [H3] with H3
  · isplitr; · iexact HR
    iexact H3
  imodintro
  isplitl [H0]; · iexact H0
  isplitl [H1]; · iexact H1
  isplitl [H2] <;> iassumption

/-- The semaphores of one stream: departures, arrivals, credits. -/
def ofStream (Φ : Own → sProp 𝕄) (q : Fin 4) : sProp 𝕄 :=
  iprop((Φ (q, .inl 0) ∗ Φ (q, .inl 1)) ∗ (Φ (q, .inr (.inl 0)) ∗ Φ (q, .inr (.inl 1))) ∗ Φ (q, .inr (.inr ())))

theorem own_split (Φ : Own → sProp 𝕄) : bigSep Finset.univ Φ = each (ofStream Φ) := by
  rw [bigSep_univ_prod, ← each_eq]
  refine bigSep_congr fun q _ => ?_
  rw [bigSep_univ_sum, bigSep_univ_sum, BI.bigSep_fin_two, BI.bigSep_fin_two, show (Finset.univ : Finset Unit) = {()} from rfl, bigSep_singleton]
  rfl

/-! ## Buffers and their slots -/

/-- A stream's two buffers, at contents not chosen. -/
def buffers (c : Dev nD) (q : Fin 4) : sProp 𝕄 :=
  iprop((∃ f, (snd q).view.loc (c : Thread nD τ) ↦[(snd q).view.set]{fullShare} f)
    ∗ (∃ f, (rcv q).view.loc (c : Thread nD τ) ↦[(rcv q).view.set]{fullShare} f))

theorem halve (A : Memref sig .tc .vmem S2x256x2048 .bf16) (c : Dev nD) (f : Buf (Elt F) (A.view.loc (c : Thread nD τ))) :
    (A.view.loc (c : Thread nD τ) ↦[A.view.set]{fullShare} f : sProp 𝕄)
      ⊢ iprop((A.view.loc (c : Thread nD τ) ↦[(slotV A 0).view.set]{fullShare} f) ∗ A.view.loc (c : Thread nD τ) ↦[(slotV A 1).view.set]{fullShare} f) := by
  rw [← slots_union A]
  exact (pointsTo_union (slots_disjoint A)).1

theorem unite (A : Memref sig .tc .vmem S2x256x2048 .bf16) (c : Dev nD) :
    iprop((∃ f : Buf (Elt F) (A.view.loc (c : Thread nD τ)), A.view.loc (c : Thread nD τ) ↦[(slotV A 0).view.set]{fullShare} f)
        ∗ (∃ f : Buf (Elt F) (A.view.loc (c : Thread nD τ)), A.view.loc (c : Thread nD τ) ↦[(slotV A 1).view.set]{fullShare} f))
      ⊢ (iprop(∃ f, A.view.loc (c : Thread nD τ) ↦[A.view.set]{fullShare} f) : sProp 𝕄) := by
  iintro ⟨⟨%f, Hf⟩, ⟨%g, Hg⟩⟩
  iexists _
  rw [← slots_union A]
  iapply (pointsTo_join (slots_disjoint A))
  isplitl [Hf]; · iexact Hf
  iexact Hg

theorem rcv_split (c : Dev nD) (q : Fin 4) :
    iprop(∃ f, (rcv q).view.loc (c : Thread nD τ) ↦[(rcv q).view.set]{fullShare} f) ⊢ (iprop(rcvAny c q 0 ∗ rcvAny c q 1) : sProp 𝕄) := by
  iintro ⟨%f, H⟩
  ihave H' := (halve (rcv q) c f) $$ H
  icases H' with ⟨H0, H1⟩
  isplitl [H0]; · iexists f; iexact H0
  iexists f; iexact H1
theorem snd_split (c : Dev nD) (q : Fin 4) :
    iprop(∃ f, (snd q).view.loc (c : Thread nD τ) ↦[(snd q).view.set]{fullShare} f) ⊢ (iprop(sndAny c q 0 ∗ sndAny c q 1) : sProp 𝕄) := by
  iintro ⟨%f, H⟩
  ihave H' := (halve (snd q) c f) $$ H
  icases H' with ⟨H0, H1⟩
  isplitl [H0]; · iexists f; iexact H0
  iexists f; iexact H1

/-! ## Entering -/

/-- A counter opened: at its start, and known to be. -/
def atStart (c : Dev nD) (o : Own) : sProp 𝕄 :=
  iprop(atPos ER ((c : Thread nD τ), osem o) 0 ∅ 0 ∗ reached ER ((c : Thread nD τ), osem o) 0)

/-- What a stream uses up in all. -/
def supply (c : Dev nD) (q : Fin 4) : sProp 𝕄 :=
  iprop((readerAt EK (c, q, 0) 0 ∗ readerAt EK (c, q, 1) 0)
    ∗ (bigSep (Finset.Ico 0 15) (msgTok c q) ∗ bigSep (Finset.Ico 1 14) (crdTok c q))
    ∗ (bigSep (Finset.Ico 0 15) (msgCred c q) ∗ bigSep (Finset.Ico 1 14) (crdCred c q)))

/-- A stream whose own side is ready. -/
def prepared (c : Dev nD) (q : Fin 4) : sProp 𝕄 :=
  iprop(sndFree c q 0 ∗ sndFree c q 1 ∗ credits c q 1 ∗ keep c q 0 ∗ rcvPos c q 0 ∗ rcvPos c q 1 ∗ msgTok c q 0 ∗ stock c q 0)

variable {X : Dev nD → Vec F S4096x256 .i8} {Wt : Dev nD → Vec F S256x8192 .i8} {K : GSem nD τ sig → ℕ} {KS : Key → ℕ}

/-- Make a receive slot over for the first time. -/
theorem hand (c : Dev nD) (q : Fin 4) (b : Fin 2) :
    iprop(records X Wt K KS ∗ readerAt EK (c, q, b) 0 ∗ rcvAny c q b)
      ⊢ iprop(|={Set.univ}=> (readerAt EK (c, q, b) 1 ∗ released EK (c, q, b) 1)) := by
  have hS : iprop(rcvAny (F := F) c q b ∗ rcvAny c q b) ⊢ (False : sProp 𝕄) := slot_slot_false (slot_nonempty _ _)
  iintro ⟨#Hr, Hrd, Hs⟩
  ihave #Hsl := (rec_slot X Wt K KS c q b) $$ Hr
  imod (slot_release EK (S := rcvAny (F := F) c q b) (Set.mem_univ (KS (c, q, b))) hS 0) $$ [Hrd Hs] with ⟨Hrd, #Hrel⟩
  · isplitr; · iexact Hsl
    isplitl [Hrd] <;> iassumption
  imodintro
  isplitl [Hrd]; · iexact Hrd
  iexact Hrel

/-- A stream on entry. -/
theorem prepare (c : Dev nD) (q : Fin 4) :
    iprop(records X Wt K KS ∗ (ofStream (atStart c) q ∗ supply c q ∗ buffers c q))
      ⊢ iprop(|={Set.univ}=> ((ready c q 0 ∗ reached ER (crdCell c q) 0) ∗ prepared c q)) := by
  have hk : keep (F := F) c q 0 = iprop(readerAt EK (c, q, 0) 1 ∗ readerAt EK (c, q, 1) 1 ∗ freed c q 1) := by unfold keep; rw [if_pos (by decide)]; rfl
  have hc : credits (F := F) c q 1 = iprop(crdPos c q 0 ∗ bigSep (Finset.Ico 1 14) (crdCred c q)) := by unfold credits; rw [if_pos (by decide)]
  unfold prepared supply buffers ofStream atStart stock
  rw [hk, hc, bigSep_pop (show 0 < 15 by decide) (msgTok c q)]
  iintro ⟨#Hr, ⟨⟨⟨Hs0, #Hs0r⟩, ⟨Hs1, #Hs1r⟩⟩, ⟨⟨Hr0, #Hr0r⟩, ⟨Hr1, #Hr1r⟩⟩, ⟨Hc, #Hcr⟩⟩, ⟨⟨Hd0, Hd1⟩, ⟨⟨Hm0, Hm⟩, Ht⟩, Hmc, Htc⟩, Hsnd, Hrcv⟩
  ihave Hsnd' := (snd_split c q) $$ Hsnd
  icases Hsnd' with ⟨Hb0, Hb1⟩
  ihave Hrcv' := (rcv_split c q) $$ Hrcv
  icases Hrcv' with ⟨Hv0, Hv1⟩
  imod (hand (X := X) (Wt := Wt) (K := K) (KS := KS) c q 0) $$ [Hd0 Hv0] with ⟨Hd0, #Hrel0⟩
  · isplitr; · iexact Hr
    isplitl [Hd0] <;> iassumption
  imod (hand (X := X) (Wt := Wt) (K := K) (KS := KS) c q 1) $$ [Hd1 Hv1] with ⟨Hd1, #Hrel1⟩
  · isplitr; · iexact Hr
    isplitl [Hd1] <;> iassumption
  ihave #Hf0 : freed c q 0 $$ []
  · unfold freed; isplitr; · iexact Hrel0
    iexact Hr0r
  ihave #Hf1 : freed c q 1 $$ []
  · unfold freed; isplitr; · iexact Hrel1
    iexact Hr1r
  imodintro
  isplitr
  · isplitr
    · unfold ready; isplitr; · iexact Hf0
      iexact Hf1
    iexact Hcr
  isplitl [Hs0 Hb0]
  · unfold sndFree sndPos; isplitl [Hs0]; · iexact Hs0
    isplitr; · iexact Hs0r
    iexact Hb0
  isplitl [Hs1 Hb1]
  · unfold sndFree sndPos; isplitl [Hs1]; · iexact Hs1
    isplitr; · iexact Hs1r
    iexact Hb1
  isplitl [Hc Htc]
  · isplitl [Hc]
    · unfold crdPos; iexists (∅ : Finset ℕ)
      isplitr; · ipureintro; exact ⟨Finset.empty_subset _, Nat.le_refl 0⟩
      isplitl [Hc]; · iexact Hc
      rw [bigSep_empty]; iempintro
    iexact Htc
  isplitl [Hd0 Hd1]
  · isplitl [Hd0]; · iexact Hd0
    isplitl [Hd1]; · iexact Hd1
    iexact Hf1
  isplitl [Hr0]; · unfold rcvPos; iexact Hr0
  isplitl [Hr1]; · unfold rcvPos; iexact Hr1
  isplitl [Hm0]; · iexact Hm0
  isplitl [Hm]; · iexact Hm
  isplitl [Hmc] <;> iassumption

/-- Once the receiver is known to be ready, the stream can start. -/
theorem start (c : Dev nD) (q : Fin 4) : iprop(ready (down c q) q 0 ∗ prepared c q) ⊢ (fresh c q : sProp 𝕄) := by
  unfold ready prepared fresh
  rw [show gateIn (F := F) c q 0 = iprop(sndFree c q 1 ∗ freed (down c q) q 1 ∗ credits c q 1) from rfl]
  iintro ⟨⟨#Hf0, #Hf1⟩, H0, H1, Hc, Hk, Hp0, Hp1, Hm, Hs⟩
  isplitl [H0]; · iexact H0
  isplitr; · iexact Hf0
  isplitl [H1 Hc]
  · isplitl [H1]; · iexact H1
    isplitr; · iexact Hf1
    iexact Hc
  isplitl [Hk]; · iexact Hk
  isplitl [Hp0]; · iexact Hp0
  isplitl [Hp1]; · iexact Hp1
  isplitl [Hm] <;> iassumption

/-! ## Leaving -/

/-- A counter given back. -/
def atZero (c : Dev nD) (o : Own) : sProp 𝕄 := semVal ((c : Thread nD τ), osem o) 0

/-- A stream at the end: its counters are at zero and its buffers whole. -/
theorem leave (c : Dev nD) (q : Fin 4) :
    iprop(records X Wt K KS ∗ spent c q) ⊢ iprop(|={Set.univ}=> (ofStream (atZero c) q ∗ buffers c q)) := by
  have close (g : GSem nD τ sig) (R : ℕ) (hg : g ∈ barCells ∪ ownCells) (later : ∀ r, R ≤ r → (sched X Wt).duties g r = ∅) :
      iprop(records X Wt K KS ∗ atPos ER g R ∅ 0) ⊢ (iprop(|={Set.univ}=> semVal g 0) : sProp 𝕄) := by
    iintro ⟨#Hr, H⟩
    iapply (Rounds.cell_close ER (sched X Wt) (Set.mem_univ (K g)) id later)
    isplitr; · iapply (rec_cell X Wt K KS hg); iexact Hr
    iexact H
  unfold spent sndPos rcvPos ofStream atZero
  iintro ⟨#Hr, Hs1, Hs0, Hc, Hr1, Hr0, Hv0, Hv1, Hb0, Hb1⟩
  imod (close _ _ (own_mem c (q, .inl 0)) (later_snd X Wt c q 16 (by decide))) $$ [Hs0] with Hs0
  · isplitr; · iexact Hr
    iexact Hs0
  imod (close _ _ (own_mem c (q, .inl 1)) (later_snd X Wt c q 15 (by decide))) $$ [Hs1] with Hs1
  · isplitr; · iexact Hr
    iexact Hs1
  imod (close _ _ (own_mem c (q, .inr (.inl 0))) (later_rcv X Wt c q 16 (by decide))) $$ [Hr0] with Hr0
  · isplitr; · iexact Hr
    iexact Hr0
  imod (close _ _ (own_mem c (q, .inr (.inl 1))) (later_rcv X Wt c q 15 (by decide))) $$ [Hr1] with Hr1
  · isplitr; · iexact Hr
    iexact Hr1
  imod (close _ _ (own_mem c (q, .inr (.inr ()))) (later_crd X Wt c q)) $$ [Hc] with Hc
  · isplitr; · iexact Hr
    iexact Hc
  imodintro
  isplitl [Hs0 Hs1 Hr0 Hr1 Hc]
  · isplitl [Hs0 Hs1]
    · isplitl [Hs0] <;> iassumption
    isplitl [Hr0 Hr1]
    · isplitl [Hr0] <;> iassumption
    iexact Hc
  unfold buffers
  isplitl [Hb0 Hb1]
  · iapply (unite (snd q) c)
    isplitl [Hb0]; · iexact Hb0
    iexact Hb1
  iapply (unite (rcv q) c)
  isplitl [Hv0]; · iexact Hv0
  iexact Hv1

end Cert.KernelIdeal.Ring

end
-- ==== Proof.Ring.Run.lean ====
/- The run of the body on one device: the barrier, the first messages, the steps, the last step, and the end. -/
module

public import proofs.«01_k».proof.Proof.Ring.Entry

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Facts₀ Facts

variable {F : FTy → Type} [FloatOps F]

local notation "𝕄" => MT nD τ sig ℕ (Elt F) ℕ UU ℕ

/-! ## The barrier -/

/-- What a device owes at the start: one unit to each neighbour's barrier, and every message and credit. -/
def O₀ (c : Dev nD) : CellTallies nD τ sig ℕ := debts c 0 1 + tallyAt (barCell (right c)) 1 1 + tallyAt (barCell (left c)) 1 1

/-- What a device brings to the barrier. -/
def doorbell (c : Dev nD) : sProp 𝕄 :=
  iprop(atPos ER (barCell c) 0 ∅ 0 ∗ (reached ER (barCell (left c)) 0 ∗ reached ER (barCell (right c)) 0)
    ∗ (dutyTok ER (barCell (left c)) 0 0 ∗ dutyTok ER (barCell (right c)) 0 1) ∗ cred (tallyAt (barCell c) 1 2))

/-- The device's own side is ready on every stream. -/
def allReady (c : Dev nD) : sProp 𝕄 := each fun q => iprop(ready c q 0 ∗ reached ER (crdCell c q) 0)

instance allReady_persistent (c : Dev nD) : BI.Persistent (allReady (F := F) c) := by unfold allReady; infer_instance

theorem allReady_at (c : Dev nD) : ∀ q, allReady (F := F) c ⊢ iprop(ready c q 0 ∗ reached ER (crdCell c q) 0)
  | 0 => by unfold allReady each; iintro ⟨H, -⟩; iexact H
  | 1 => by unfold allReady each; iintro ⟨-, H, -⟩; iexact H
  | 2 => by unfold allReady each; iintro ⟨-, -, H, -⟩; iexact H
  | 3 => by unfold allReady each; iintro ⟨-, -, -, H⟩; iexact H

/-- What a device says to its neighbour `d`. -/
theorem greet_of (c d : Dev nD) (q q' p p' : Fin 4) (h : down d q = c) (h' : down d q' = c) (k : up d p = c) (k' : up d p' = c) :
    allReady (F := F) c ⊢ greet d q q' p p' := by
  unfold greet
  rw [h, h', k, k']
  iintro #H
  ihave ⟨Hq, -⟩ := (allReady_at c q) $$ H
  ihave ⟨Hq', -⟩ := (allReady_at c q') $$ H
  ihave ⟨-, Hp⟩ := (allReady_at c p) $$ H
  ihave ⟨-, Hp'⟩ := (allReady_at c p') $$ H
  isplitl [Hq]; · iexact Hq
  isplitl [Hq']; · iexact Hq'
  isplitl [Hp] <;> iassumption

section Run
variable {xM : Memref sig .tc .vmem S4096x256 .i8} {wM : Memref sig .tc .vmem S256x8192 .i8}
variable {cM : Memref sig .tc .smem S1x1 .f32} {oM : Memref sig .tc .vmem S256x8192 .f32}
variable {X : Dev nD → Vec F S4096x256 .i8} {Wt : Dev nD → Vec F S256x8192 .i8} {K : GSem nD τ sig → ℕ} {KS : Key → ℕ} {c : Dev nD}

/-- One unit to a neighbour's barrier. -/
theorem wp_greet {d : Dev nD} {n : ℕ} {O₁ O : CellTallies nD τ sig ℕ} (hn : n ∈ ({0, 1} : Finset ℕ)) (hO : O₁ = O + tallyAt (barCell d) 1 1)
    (kont : Prog (Eff F) PUnit.{1}) (Kt : PUnit.{1} → sProp 𝕄) :
    iprop(records X Wt K KS ∗ (sched X Wt).payload (barCell d) 0 n ∗ dutyTok ER (barCell d) 0 n ∗ reached ER (barCell d) 0 ∗ owing c O₁)
      ⊢ iprop((owing c O -∗ runs c kont Kt) -∗ runs c (signal d bar kont) Kt) := by
  unfold signal owing
  iintro ⟨#Hr, Hp, Ht, #Hr0, ⟨%W, HO⟩⟩ Hk
  iapply (Rounds.wp_signal 𝒱₀ ER (sched X Wt) (c : Thread nD τ) none (dst := (d : Thread nD τ)) (sem := bar) (r := 0) (d := n)
      (κ := K (barCell d)) (by rw [duties_bar]; exact hn) (amount_bar X Wt d _ _) 1 O hO) $$ [HO Ht Hp]
  · isplitr; · iapply (rec_bar X Wt K KS d); iexact Hr
    isplitl [HO]; · iexact HO
    isplitl [Ht]; · iexact Ht
    isplitl [Hp]; · iexact Hp
    iexact Hr0
  iintro HO
  iapply Hk
  iexists W; iexact HO

theorem bar_from : From 2 (debts c 0 1) :=
  (((owed_from c 0 (by decide) (by decide)).add (owed_from c 1 (by decide) (by decide))).add (owed_from c 2 (by decide) (by decide))).add
    (owed_from c 3 (by decide) (by decide))

/-- The barrier: afterwards both neighbours are known to be ready. -/
theorem wp_barrier (kont : Prog (Eff F) PUnit.{1}) (Kt : PUnit.{1} → sProp 𝕄) :
    iprop(records X Wt K KS ∗ levAts L lv ∗ allReady c ∗ doorbell c ∗ owing c (O₀ c))
      ⊢ iprop(((each (fun q => ready (down c q) q 0) ∗ open0 c ∗ atPos ER (barCell c) 1 ∅ 0 ∗ owing c (debts c 0 1)) -∗ runs c kont Kt)
          -∗ runs c (signal (left c) bar <| signal (right c) bar <| .op (.semWait bar (2#32).toInt) fun _ => kont) Kt) := by
  unfold doorbell
  iintro ⟨#Hr, #Hlev, #Ha, ⟨Hat, ⟨#Hl, #Hri⟩, ⟨Htl, Htr⟩, Hc⟩, HO⟩ Hk
  iapply (wp_greet (X := X) (Wt := Wt) (K := K) (KS := KS) (c := c) (d := left c) (n := 0) (O₁ := O₀ c)
      (O := debts c 0 1 + tallyAt (barCell (right c)) 1 1) (by decide) rfl _ Kt) $$ [Htl HO]
  · isplitr; · iexact Hr
    isplitr
    · rw [payload_bar]
      iapply (greet_of c (left c) 0 1 2 3 (right_left c) (right_left c) (right_left c) (right_left c)); iexact Ha
    isplitl [Htl]; · iexact Htl
    isplitr; · iexact Hl
    iexact HO
  iintro HO
  iapply (wp_greet (X := X) (Wt := Wt) (K := K) (KS := KS) (c := c) (d := right c) (n := 1)
      (O₁ := debts c 0 1 + tallyAt (barCell (right c)) 1 1) (O := debts c 0 1) (by decide) rfl _ Kt) $$ [Htr HO]
  · isplitr; · iexact Hr
    isplitr
    · rw [payload_bar']
      iapply (greet_of c (right c) 2 3 0 1 (left_right c) (left_right c) (left_right c) (left_right c)); iexact Ha
    isplitl [Htr]; · iexact Htr
    isplitr; · iexact Hri
    iexact HO
  unfold owing
  iintro ⟨%W, HO⟩
  iapply (Rounds.wp_wait_rest_token 𝒱₀ ER (sched X Wt) (c : Thread nD τ) none (κ := K (barCell c))
      (wpE_semWait_eq 𝒱₀ (c : Thread nD τ) none Set.univ) (Set.mem_univ _) 1 (O := debts c 0 1) (W := W) (R := 0) (m := 0) (T := ∅)
      (expect_bar X Wt c).symm) $$ [Hc HO Hat]
  · isplitr; · iapply (rec_bar X Wt K KS c); iexact Hr
    isplitl [Hc]; · iexact Hc
    isplitl [HO]; · iexact HO
    isplitr; · iapply (mayWait c _ (n := 1) (by decide) bar_from); iexact Hlev
    iexact Hat
  iintro ⟨HO, Hat, -, Hpay⟩
  ihave Hp := (Entails.of_eq (rest_bar X Wt c)) $$ Hpay
  unfold greet
  icases Hp with ⟨⟨H0, H1, K2, K3⟩, ⟨H2, H3, K0, K1⟩⟩
  iapply Hk
  isplitl [H0 H1 H2 H3]
  · unfold each
    isplitl [H0]; · iexact H0
    isplitl [H1]; · iexact H1
    isplitl [H2] <;> iassumption
  isplitl [K0 K1 K2 K3]
  · unfold open0 each
    isplitl [K0]; · iexact K0
    isplitl [K1]; · iexact K1
    isplitl [K2] <;> iassumption
  isplitl [Hat]; · iexact Hat
  iexists _; iexact HO

/-! ## The first messages -/

theorem wp_first' (q : Fin 4) {O O' : CellTallies nD τ sig ℕ} (R : CellTallies nD τ sig ℕ) (hO : O = R + owed c q 0 1) (hO' : O' = R + owed c q 1 1)
    (kont : Prog (Eff F) PUnit.{1}) (Kt : PUnit.{1} → sProp 𝕄) :
    iprop(records X Wt K KS ∗ ins xM wM X Wt c ∗ fresh c q ∗ owing c O)
      ⊢ iprop(((ins xM wM X Wt c ∗ before c q 0 ∗ owing c O') -∗ runs c kont Kt) -∗ runs c (first xM wM c q kont) Kt) := by
  rw [hO, hO']
  exact wp_first (X := X) (Wt := Wt) (K := K) (KS := KS) (c := c) q kont Kt

/-- Step 0 of the four streams. -/
theorem wp_firsts (kont : Prog (Eff F) PUnit.{1}) (Kt : PUnit.{1} → sProp 𝕄) :
    iprop(records X Wt K KS ∗ ins xM wM X Wt c ∗ each (fresh c) ∗ owing c (debts c 0 1))
      ⊢ iprop(((ins xM wM X Wt c ∗ each (fun q => before c q 0) ∗ owing c (debts c 1 1)) -∗ runs c kont Kt)
          -∗ runs c (first xM wM c 0 <| first xM wM c 2 <| first xM wM c 1 <| first xM wM c 3 kont) Kt) := by
  have s0 := fun k => wp_first' (xM := xM) (wM := wM) (X := X) (Wt := Wt) (K := K) (KS := KS) (c := c) 0 _
    (pull0 (owed c 0 0 1) (owed c 1 0 1) (owed c 2 0 1) (owed c 3 0 1)) (pull0 (owed c 0 1 1) (owed c 1 0 1) (owed c 2 0 1) (owed c 3 0 1)) k Kt
  have s2 := fun k => wp_first' (xM := xM) (wM := wM) (X := X) (Wt := Wt) (K := K) (KS := KS) (c := c) 2 _
    (pull2 (owed c 0 1 1) (owed c 1 0 1) (owed c 2 0 1) (owed c 3 0 1)) (pull2 (owed c 0 1 1) (owed c 1 0 1) (owed c 2 1 1) (owed c 3 0 1)) k Kt
  have s1 := fun k => wp_first' (xM := xM) (wM := wM) (X := X) (Wt := Wt) (K := K) (KS := KS) (c := c) 1 _
    (pull1 (owed c 0 1 1) (owed c 1 0 1) (owed c 2 1 1) (owed c 3 0 1)) (pull1 (owed c 0 1 1) (owed c 1 1 1) (owed c 2 1 1) (owed c 3 0 1)) k Kt
  have s3 := fun k => wp_first' (xM := xM) (wM := wM) (X := X) (Wt := Wt) (K := K) (KS := KS) (c := c) 3
    (O := owed c 0 1 1 + owed c 1 1 1 + owed c 2 1 1 + owed c 3 0 1) _ rfl rfl k Kt
  unfold debts each
  iintro ⟨#Hr, Hi, ⟨H0, H1, H2, H3⟩, HO⟩ Hk
  iapply (s0 _) $$ [Hi H0 HO]
  · isplitr; · iexact Hr
    isplitl [Hi]; · iexact Hi
    isplitl [H0] <;> iassumption
  iintro ⟨Hi, H0, HO⟩
  iapply (s2 _) $$ [Hi H2 HO]
  · isplitr; · iexact Hr
    isplitl [Hi]; · iexact Hi
    isplitl [H2] <;> iassumption
  iintro ⟨Hi, H2, HO⟩
  iapply (s1 _) $$ [Hi H1 HO]
  · isplitr; · iexact Hr
    isplitl [Hi]; · iexact Hi
    isplitl [H1] <;> iassumption
  iintro ⟨Hi, H1, HO⟩
  iapply (s3 _) $$ [Hi H3 HO]
  · isplitr; · iexact Hr
    isplitl [Hi]; · iexact Hi
    isplitl [H3] <;> iassumption
  iintro ⟨Hi, H3, HO⟩
  iapply Hk
  isplitl [Hi]; · iexact Hi
  isplitr [HO]
  · isplitl [H0]; · iexact H0
    isplitl [H1]; · iexact H1
    isplitl [H2] <;> iassumption
  iexact HO

/-! ## The last step and the end -/

variable {Sc : Dev nD → Vec F S1x1 .f32}

/-- The last step of the four streams. -/
theorem wp_lastStep (kont : Prog (Eff F) PUnit.{1}) (Kt : PUnit.{1} → sProp 𝕄) :
    iprop(records X Wt K KS ∗ levAts L lv ∗ ins xM wM X Wt c ∗ each (fun q => before c q 14) ∗ ownsTc c cM fullShare (Sc c)
        ∗ (∃ x, ownsTc c oM fullShare x) ∗ owing c 0)
      ⊢ iprop(((ins xM wM X Wt c ∗ each (ended c) ∗ ownsTc c cM fullShare (Sc c) ∗ ownsTc c oM fullShare (joined (result X Wt (scOf Sc) c))
            ∗ owing c 0) -∗ runs c kont Kt)
          -∗ runs c (lastStep xM wM cM oM c kont) Kt) := by
  have s := fun q D hD k => wp_last (cM := cM) (oM := oM) (X := X) (Wt := Wt) (K := K) (KS := KS) (c := c) (Sc := Sc) q D hD k Kt
  unfold lastStep each
  rw [show (15 : Fin 16) = stepOf 15 from rfl]
  iintro ⟨#Hr, #Hlev, Hi, ⟨H0, H1, H2, H3⟩, Hg, ⟨%x, Hf⟩, HO⟩ Hk
  ihave Ho := (outAt_intro oM c (result X Wt (scOf Sc) c) x) $$ Hf
  iapply (wp_parts 15 _ Kt) $$ Hi
  iintro Hi
  iapply (s 0 ∅ (by decide) _) $$ [H0 Hg Ho HO]
  · isplitr; · iexact Hr
    isplitr; · iexact Hlev
    isplitl [H0]; · iexact H0
    isplitl [Hg]; · iexact Hg
    isplitl [Ho] <;> iassumption
  iintro ⟨H0, Hg, Ho, HO⟩
  iapply (s 2 (insert 0 ∅) (by decide) _) $$ [H2 Hg Ho HO]
  · isplitr; · iexact Hr
    isplitr; · iexact Hlev
    isplitl [H2]; · iexact H2
    isplitl [Hg]; · iexact Hg
    isplitl [Ho] <;> iassumption
  iintro ⟨H2, Hg, Ho, HO⟩
  iapply (s 1 (insert 2 (insert 0 ∅)) (by decide) _) $$ [H1 Hg Ho HO]
  · isplitr; · iexact Hr
    isplitr; · iexact Hlev
    isplitl [H1]; · iexact H1
    isplitl [Hg]; · iexact Hg
    isplitl [Ho] <;> iassumption
  iintro ⟨H1, Hg, Ho, HO⟩
  iapply (s 3 (insert 1 (insert 2 (insert 0 ∅))) (by decide) _) $$ [H3 Hg Ho HO]
  · isplitr; · iexact Hr
    isplitr; · iexact Hlev
    isplitl [H3]; · iexact H3
    isplitl [Hg]; · iexact Hg
    isplitl [Ho] <;> iassumption
  iintro ⟨H3, Hg, Ho, HO⟩
  iapply Hk
  isplitl [Hi]; · iexact Hi
  isplitl [H0 H1 H2 H3]
  · isplitl [H0]; · iexact H0
    isplitl [H1]; · iexact H1
    isplitl [H2] <;> iassumption
  isplitl [Hg]; · iexact Hg
  isplitl [Ho]; · iapply (outAt_elim oM c (result X Wt (scOf Sc) c) (D := insert 3 (insert 1 (insert 2 (insert 0 ∅)))) (by decide)) $$ Ho
  iexact HO

/-- The end of the four streams. -/
theorem wp_drains (kont : Prog (Eff F) PUnit.{1}) (Kt : PUnit.{1} → sProp 𝕄) :
    iprop(records X Wt K KS ∗ levAts L lv ∗ each (ended c) ∗ owing c 0)
      ⊢ iprop(((each (spent c) ∗ owing c 0) -∗ runs c kont Kt) -∗ runs c (drain 0 <| drain 1 <| drain 2 <| drain 3 kont) Kt) := by
  have s := fun q k => wp_drain (X := X) (Wt := Wt) (K := K) (KS := KS) (c := c) (q := q) k Kt
  unfold each
  iintro ⟨#Hr, #Hlev, ⟨H0, H1, H2, H3⟩, HO⟩ Hk
  iapply (s 0 _) $$ [H0 HO]
  · isplitr; · iexact Hr
    isplitr; · iexact Hlev
    isplitl [H0] <;> iassumption
  iintro ⟨H0, HO⟩
  iapply (s 1 _) $$ [H1 HO]
  · isplitr; · iexact Hr
    isplitr; · iexact Hlev
    isplitl [H1] <;> iassumption
  iintro ⟨H1, HO⟩
  iapply (s 2 _) $$ [H2 HO]
  · isplitr; · iexact Hr
    isplitr; · iexact Hlev
    isplitl [H2] <;> iassumption
  iintro ⟨H2, HO⟩
  iapply (s 3 _) $$ [H3 HO]
  · isplitr; · iexact Hr
    isplitr; · iexact Hlev
    isplitl [H3] <;> iassumption
  iintro ⟨H3, HO⟩
  iapply Hk
  isplitr [HO]
  · isplitl [H0]; · iexact H0
    isplitl [H1]; · iexact H1
    isplitl [H2] <;> iassumption
  iexact HO

/-! ## The whole body -/

/-- What the body starts from, beside the windows. -/
def entry (c : Dev nD) : sProp 𝕄 :=
  iprop(doorbell c ∗ each (ofStream (atStart c)) ∗ each (supply c) ∗ each (buffers c))

/-- What it leaves, beside the windows. -/
def exit (c : Dev nD) : sProp 𝕄 :=
  iprop(semVal (barCell c) 0 ∗ each (ofStream (atZero c)) ∗ each (buffers c))

theorem wp_prog (Kt : PUnit.{1} → sProp 𝕄) :
    iprop(records X Wt K KS ∗ levAts L lv ∗ entry c ∗ ins xM wM X Wt c ∗ ownsTc c cM fullShare (Sc c) ∗ (∃ x, ownsTc c oM fullShare x) ∗ owing c (O₀ c))
      ⊢ iprop(((exit c ∗ ins xM wM X Wt c ∗ ownsTc c cM fullShare (Sc c) ∗ ownsTc c oM fullShare (joined (result X Wt (scOf Sc) c)) ∗ owing c 0) -∗ Kt ⟨⟩)
          -∗ runs c (prog xM wM cM oM) Kt) := by
  have into : iprop(records X Wt K KS ∗ (each (ofStream (atStart c)) ∗ each (supply c) ∗ each (buffers c)))
      ⊢ iprop(|={Set.univ}=> (allReady c ∗ each (prepared c))) := by
    have h := each_fupd (R := records X Wt K KS) (prepare (X := X) (Wt := Wt) (K := K) (KS := KS) c)
    rw [each_sep, each_sep, each_sep] at h
    exact h
  have out : iprop(records X Wt K KS ∗ each (spent c)) ⊢ iprop(|={Set.univ}=> (each (ofStream (atZero c)) ∗ each (buffers c))) := by
    have h := each_fupd (R := records X Wt K KS) (leave (X := X) (Wt := Wt) (K := K) (KS := KS) c)
    rw [each_sep] at h
    exact h
  unfold prog entry exit
  iintro ⟨#Hr, #Hlev, ⟨Hd, Hst, Hsu, Hb⟩, Hi, Hg, Hf, HO⟩ Hk
  imod into $$ [Hst Hsu Hb] with ⟨#Ha, Hp⟩
  · isplitr; · iexact Hr
    isplitl [Hst]; · iexact Hst
    isplitl [Hsu] <;> iassumption
  simp only [wp_deviceId]
  iapply (wp_barrier (X := X) (Wt := Wt) (K := K) (KS := KS) (c := c) _ Kt) $$ [Hd HO]
  · isplitr; · iexact Hr
    isplitr; · iexact Hlev
    isplitr; · iexact Ha
    isplitl [Hd] <;> iassumption
  iintro ⟨Hy, #Ho, Hat, HO⟩
  iapply (wp_firsts (X := X) (Wt := Wt) (K := K) (KS := KS) (c := c) _ Kt) $$ [Hi Hp Hy HO]
  · isplitr; · iexact Hr
    isplitl [Hi]; · iexact Hi
    isplitr [HO]
    · iapply (each_mono (start c))
      rw [each_sep]
      isplitl [Hy] <;> iassumption
    iexact HO
  iintro ⟨Hi, Hp, HO⟩
  iapply (wp_steps (X := X) (Wt := Wt) (K := K) (KS := KS) (c := c) _ Kt 14 0 _ rfl) $$ [Hi Hp HO]
  · isplitr; · iexact Hr
    isplitr; · iexact Hlev
    isplitr; · iexact Ho
    isplitl [Hi]; · iexact Hi
    isplitl [Hp] <;> iassumption
  rw [debts_none]
  iintro ⟨Hi, Hp, HO⟩
  iapply (wp_lastStep (X := X) (Wt := Wt) (K := K) (KS := KS) (c := c) (Sc := Sc) _ Kt) $$ [Hi Hp Hg Hf HO]
  · isplitr; · iexact Hr
    isplitr; · iexact Hlev
    isplitl [Hi]; · iexact Hi
    isplitl [Hp]; · iexact Hp
    isplitl [Hg]; · iexact Hg
    isplitl [Hf] <;> iassumption
  iintro ⟨Hi, Hp, Hg, Hf, HO⟩
  iapply (wp_drains (X := X) (Wt := Wt) (K := K) (KS := KS) (c := c) _ Kt) $$ [Hp HO]
  · isplitr; · iexact Hr
    isplitr; · iexact Hlev
    isplitl [Hp] <;> iassumption
  iintro ⟨Hp, HO⟩
  imod out $$ [Hp] with ⟨Hz, Hb⟩
  · isplitr; · iexact Hr
    iexact Hp
  imod (Rounds.cell_close ER (sched X Wt) (g := barCell c) (Set.mem_univ (K (barCell c))) id (later_bar X Wt c)) $$ [Hat] with Hat
  · isplitr; · iapply (rec_bar X Wt K KS c); iexact Hr
    iexact Hat
  rw [wp_ret]
  imodintro
  iapply Hk
  isplitl [Hat Hz Hb]
  · isplitl [Hat]; · iexact Hat
    isplitl [Hz] <;> iassumption
  isplitl [Hi]; · iexact Hi
  isplitl [Hg]; · iexact Hg
  isplitl [Hf] <;> iassumption

end Run

end Cert.KernelIdeal.Ring

end
-- ==== Proof.Ring.Region.lean ====
/- The kernel's region: its windows, its body obligation, and what enters and leaves. -/
module

public import proofs.«01_k».proof.Proof.Ring.Run
public import Idealize.ShloMosaic.Lib.Pipeline.ValueKit.Geometry

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat BodyObligation)
open Facts₀ Facts Gen

variable {F : FTy → Type} [FloatOps F]

local notation "𝕄" => MT nD τ sig ℕ (Elt F) ℕ UU ℕ

variable (m : (ℓ : Loc nD τ sig) → Buf (Elt F) ℓ)

/-! ## Contents -/

/-- A device's buffers at launch, before the region, after it. -/
abbrev V₀ (c : Dev nD) : Valuation τ sig (Elt F) := fun b => m ((c : Dev nD), b)
abbrev V₁ (c : Dev nD) : Valuation τ sig (Elt F) := StableHlo.after hostOps0 (V₀ m c)

/-- The operands of the kernel: the activations, the weights, the factor. -/
def opX (c : Dev nD) : Vec F S4096x256 .i8 := V₁ m c (Proc.devRef .tc main_arg0)
def opW (c : Dev nD) : Vec F S256x8192 .i8 := V₁ m c (Proc.devRef .tc main_arg1)
def opS (c : Dev nD) : Vec F S1x1 .f32 := V₁ m c (Proc.devRef .tc main_v2)

/-- The kernel's result. -/
def out (c : Dev nD) : Vec F S256x8192 .f32 := joined (result (opX m) (opW m) (scOf (opS m)) c)

abbrev V₂ (c : Dev nD) : Valuation τ sig (Elt F) := Function.update (V₁ m c) (Proc.devRef .tc main_v3) (out m c)

/-! ## The region's data -/

/-- What the invariant holds before the body, and after it. -/
def inside (c : Dev nD) : sProp 𝕄 :=
  iprop((∃ K KS, records (opX m) (opW m) K KS) ∗ levAts L lv ∗ entry c ∗ ∃ r, prngReg c r)
def outside (c : Dev nD) : sProp 𝕄 := iprop(exit (F := F) c ∗ ∃ r, prngReg c r)

def dat (c : Dev nD) : Dat τ (Elt F) ℕ ℕ UU ℕ cfg0 c where
  A := fun
    | 0 => V₁ m c (Proc.devRef .tc main_arg0)
    | 1 => V₁ m c (Proc.devRef .tc main_arg1)
    | 2 => V₁ m c (Proc.devRef .tc main_v2)
    | 3 => V₁ m c (Proc.devRef .tc main_v3)
  after := fun
    | 0, _ => opX m c
    | 1, _ => opW m c
    | 2, _ => opS m c
    | 3, _ => out m c
  Φ t := if t.val = 0 then inside m c else outside c
  q _ := fullShare
  owed t := if t.val = 0 then O₀ c else 0

/-- A coordinate inside a block at the array's start. -/
theorem whole_off (n k : ℕ) : 0 * n + 1 * k = k := by omega

theorem before0 (c : Dev nD) (t : Fin cfg0.N) (d) : (dat m c).before 0 t d = opX m c := by
  rw [(dat m c).before_fetched 0 t (fetch0_0 t) d]
  obtain rfl := fin_N0 t
  funext j
  have hm : (cfg0.win 0).moved (cfg0.grid.coords t0_0) j = true :=
    ((cfg0.win 0).moved_iff _ j).mpr fun a => (j a).isLt
  unfold Dat.fetched Pipeline.Window.fill
  rw [dif_pos hm]
  unfold Dat.blockOf
  rw [View.read_apply]
  exact congrArg (V₁ m c (Proc.devRef .tc main_arg0)) (funext fun a => Fin.ext (whole_off _ _))
theorem before1 (c : Dev nD) (t : Fin cfg0.N) (d) : (dat m c).before 1 t d = opW m c := by
  rw [(dat m c).before_fetched 1 t (fetch0_1 t) d]
  obtain rfl := fin_N0 t
  funext j
  have hm : (cfg0.win 1).moved (cfg0.grid.coords t0_0) j = true :=
    ((cfg0.win 1).moved_iff _ j).mpr fun a => (j a).isLt
  unfold Dat.fetched Pipeline.Window.fill
  rw [dif_pos hm]
  unfold Dat.blockOf
  rw [View.read_apply]
  exact congrArg (V₁ m c (Proc.devRef .tc main_arg1)) (funext fun a => Fin.ext (whole_off _ _))
theorem before2 (c : Dev nD) (t : Fin cfg0.N) (d) : (dat m c).before 2 t d = opS m c := by
  rw [(dat m c).before_fetched 2 t (fetch0_2 t) d]
  obtain rfl := fin_N0 t
  funext j
  have hm : (cfg0.win 2).moved (cfg0.grid.coords t0_0) j = true :=
    ((cfg0.win 2).moved_iff _ j).mpr fun a => (j a).isLt
  unfold Dat.fetched Pipeline.Window.fill
  rw [dif_pos hm]
  unfold Dat.blockOf
  rw [View.read_apply]
  exact congrArg (V₁ m c (Proc.devRef .tc main_v2)) (funext fun a => Fin.ext (whole_off _ _))

theorem owed_first (c : Dev nD) : (dat m c).owed 0 = O₀ c := rfl
theorem owed_last (c : Dev nD) : (dat m c).owed (Fin.last _) = 0 := rfl

theorem owesAt_intro (c : Dev nD) (t : Fin (cfg0.N + 1)) (O : CellTallies nD τ sig ℕ) (h : (dat m c).owed t = O) :
    owing c O ⊢ ((dat m c).owesAt 0 t : sProp 𝕄) := by
  unfold owing Dat.owesAt Pipeline.owesWithin Dat.bound
  rw [h]
  iintro ⟨%W, HO⟩
  iexists W
  isplitr; · ipureintro; exact fun _ _ => Or.inl trivial
  iexact HO
theorem owesAt_elim (c : Dev nD) (t : Fin (cfg0.N + 1)) (O : CellTallies nD τ sig ℕ) (h : (dat m c).owed t = O) :
    ((dat m c).owesAt 0 t : sProp 𝕄) ⊢ owing c O := by
  unfold owing Dat.owesAt Pipeline.owesWithin
  rw [h]
  iintro ⟨%W, -, HO⟩
  iexists W
  iexact HO

/-- The body, run at the region's one point. -/
theorem body (c : Dev nD) : BodyObligation (dat m c) defs₀ 𝒱₀ 0 Set.univ := fun t => by
  obtain rfl := fin_N0 t
  rw [bigSep_W0, bigSep_W0]
  rw [show (dat m c).Φ (Fin.castSucc t0_0) = inside m c from rfl, show (dat m c).Φ (Fin.succ t0_0) = outside c from rfl]
  unfold inside outside
  iintro ⟨⟨⟨%K, %KS, #Hr⟩, #Hlev, He, Hp⟩, HO, ⟨%d0, Hx⟩, ⟨%d1, Hw⟩, ⟨%d2, Hs⟩, ⟨%d3, Ho⟩⟩
  rw [before0, before1, before2]
  ihave HO' := (owesAt_elim m c _ (O₀ c) rfl) $$ HO
  iapply (wp_prog (X := opX m) (Wt := opW m) (K := K) (KS := KS) (c := c) (Sc := opS m) (xM := st0_0 t0_0) (wM := st0_1 t0_0) (cM := st0_2 t0_0)
    (oM := st0_3 t0_0) _) $$ [He Hx Hw Hs Ho HO']
  · isplitr; · iexact Hr
    isplitr; · iexact Hlev
    isplitl [He]; · iexact He
    isplitl [Hx Hw]
    · unfold ins
      isplitl [Hx]; · iexact Hx
      iexact Hw
    isplitl [Hs]; · iexact Hs
    isplitl [Ho]; · iexists _; iexact Ho
    iexact HO'
  unfold ins
  iintro ⟨He, ⟨Hx, Hw⟩, Hs, Ho, HO⟩
  isplitl [He Hp]
  · isplitl [He]; · iexact He
    iexact Hp
  isplitl [HO]; · iapply (owesAt_intro m c _ 0 rfl) $$ HO
  isplitl [Hx]; · iexact Hx
  isplitl [Hw]; · iexact Hw
  isplitl [Hs]; · iexact Hs
  iexact Ho

end Cert.KernelIdeal.Ring

end
-- ==== Proof.Ring.Segment.lean ====
/- The region as a segment of the program: what the device brings to it, what it opens, what it takes away. -/
module

public import proofs.«01_k».proof.Proof.Ring.Region
public import proofs.«01_k».proof.Proof.Gen.KernelIdeal.Launch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat BodyObligation)
open Facts₀ Facts Gen

variable {F : FTy → Type} [FloatOps F]

local notation "𝕄" => MT nD τ sig ℕ (Elt F) ℕ UU ℕ

variable (m : (ℓ : Loc nD τ sig) → Buf (Elt F) ℓ)

/-! ## The program's buffers -/

/-- The buffers that outlive the region: the windows' arrays, and the others. -/
def bufs : Finset (DevRef τ sig) := (StableHlo.tcRefs τ sig).filter fun b => ¬ b.isScoped
def arrs : Finset (DevRef τ sig) := Pipeline.arrRefs (τ := τ) spec0

theorem arrs_bufs : arrs ⊆ bufs := by decide

theorem V₂_out (c : Dev nD) : V₂ m c (Proc.devRef .tc main_v3) = out m c := Function.update_self _ _ _

theorem V₂_rest (c : Dev nD) : ∀ b ∈ (bufs \ arrs) \ ∅, V₂ m c b = V₁ m c b := fun b hb => by
  refine Function.update_of_ne (fun h => ?_) _ _
  subst h
  exact absurd hb (by decide)

/-! ## The scratch buffers -/

theorem whole_any (A : Memref sig .tc .vmem S2x256x2048 .bf16) (h : A.IsWhole) (c : Dev nD) :
    (iprop(∃ f, A.view.loc (c : Thread nD τ) ↦[A.view.set]{fullShare} f) : sProp 𝕄)
      = iprop(∃ f : Buf (Elt F) (A.view.loc (c : Thread nD τ)), A.view.loc (c : Thread nD τ) ↦{fullShare} f) := by
  rw [h.set_eq_univ]

theorem scoped_in (c : Dev nD) : (Pipeline.scopedRest spec0 c : sProp 𝕄) ⊢ each (buffers c) := by
  rw [scopedRest0_eq]
  unfold each buffers
  rw [whole_any _ (snd_whole 0), whole_any _ (snd_whole 1), whole_any _ (snd_whole 2), whole_any _ (snd_whole 3),
    whole_any _ (rcv_whole 0), whole_any _ (rcv_whole 1), whole_any _ (rcv_whole 2), whole_any _ (rcv_whole 3)]
  iintro ⟨H0, H1, H2, H3, H4, H5, H6, H7⟩
  isplitl [H0 H4]
  · isplitl [H0]; · iexact H0
    iexact H4
  isplitl [H1 H5]
  · isplitl [H1]; · iexact H1
    iexact H5
  isplitl [H2 H6]
  · isplitl [H2]; · iexact H2
    iexact H6
  isplitl [H3]; · iexact H3
  iexact H7

theorem scoped_out (c : Dev nD) : each (buffers c) ⊢ (Pipeline.scopedRest spec0 c : sProp 𝕄) := by
  rw [scopedRest0_eq]
  unfold each buffers
  rw [whole_any _ (snd_whole 0), whole_any _ (snd_whole 1), whole_any _ (snd_whole 2), whole_any _ (snd_whole 3),
    whole_any _ (rcv_whole 0), whole_any _ (rcv_whole 1), whole_any _ (rcv_whole 2), whole_any _ (rcv_whole 3)]
  iintro ⟨⟨H0, H4⟩, ⟨H1, H5⟩, ⟨H2, H6⟩, ⟨H3, H7⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## Entering and leaving the region -/

/-- What a device brings: the invariants, its place at the barrier, what its streams use up, and the right to open its counters. -/
def Tk (c : Dev nD) : sProp 𝕄 :=
  iprop((∃ K KS, records (opX m) (opW m) K KS) ∗ doorbell c ∗ each (supply c)
    ∗ bigSep Finset.univ fun o : Own => openTok ER ((c : Thread nD τ), osem o))
/-- The same, with the counters opened. -/
def Xk (c : Dev nD) : sProp 𝕄 :=
  iprop((∃ K KS, records (opX m) (opW m) K KS) ∗ levAts L lv ∗ doorbell c ∗ each (ofStream (atStart c)) ∗ each (supply c))
/-- What it takes away: its barrier counter at zero. -/
def Yk (c : Dev nD) : sProp 𝕄 := semVal (barCell c) 0

theorem open_all (K : GSem nD τ sig → ℕ) (KS : Key → ℕ) (c : Dev nD) :
    iprop(records (opX m) (opW m) K KS ∗ bigSep Finset.univ fun o : Own => iprop(openTok ER ((c : Thread nD τ), osem o) ∗ semVal ((c : Thread nD τ), osem o) 0))
      ⊢ (iprop(|={Set.univ}=> each (ofStream (atStart c))) : sProp 𝕄) := by
  have one (o : Own) : iprop(records (opX m) (opW m) K KS ∗ (openTok ER ((c : Thread nD τ), osem o) ∗ semVal ((c : Thread nD τ), osem o) 0))
      ⊢ (iprop(|={Set.univ}=> atStart c o) : sProp 𝕄) := by
    unfold atStart
    iintro ⟨#Hr, Ho, Hv⟩
    iapply (Rounds.cell_open ER (sched (opX m) (opW m)) (g := ((c : Thread nD τ), osem o)) (Set.mem_univ (K _)))
    isplitr; · iapply (rec_cell _ _ K KS (own_mem c o)); iexact Hr
    isplitl [Ho]; · iexact Ho
    iexact Hv
  rw [← own_split]
  exact (bigSep_with_persistent (R := records (opX m) (opW m) K KS) fun o _ => one o).trans (bigSep_fupd _ _)

theorem hopen (c : Dev nD) : iprop(Tk m c ∗ Pipeline.ownSems0 osem c ∗ levAts L lv) ⊢ (iprop(|={Set.univ}=> Xk m c) : sProp 𝕄) := by
  unfold Tk Xk Pipeline.ownSems0
  iintro ⟨⟨⟨%K, %KS, #Hr⟩, Hd, Hs, Ho⟩, Hv, #Hlev⟩
  imod (open_all m K KS c) $$ [Ho Hv] with Hst
  · isplitr; · iexact Hr
    iapply (Entails.of_eq (bigSep_sep' Finset.univ (fun o : Own => openTok ER ((c : Thread nD τ), osem o))
      (fun o : Own => semVal ((c : Thread nD τ), osem o) 0)).symm)
    isplitl [Ho]; · iexact Ho
    iexact Hv
  imodintro
  isplitr; · iexists K, KS; iexact Hr
  isplitr; · iexact Hlev
  isplitl [Hd]; · iexact Hd
  isplitl [Hst]; · iexact Hst
  iexact Hs

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat m

theorem held_none (c : Dev nD) (W : Valuation τ sig (Elt F)) : (StableHlo.held (c.tc : Thread nD τ) ∅ W : sProp 𝕄) = BI.emp := by
  unfold StableHlo.held; exact bigSep_empty

theorem hin (c : Dev nD) : iprop(Pipeline.scopedRest (Pipeline.pin (pcfgs (F := F)) adm 0).spec c ∗ (∃ r, prngReg c r)
    ∗ StableHlo.held (c.tc : Thread nD τ) ∅ (V₁ m c) ∗ Xk m c) ⊢ (pdats m 0 c).Φ 0 := by
  rw [show (pdats m 0 c).Φ 0 = inside m c from rfl]
  unfold inside Xk entry
  iintro ⟨Hs, Hp, -, Hr, Hlev, Hd, Hst, Hsu⟩
  isplitl [Hr]; · iexact Hr
  isplitl [Hlev]; · iexact Hlev
  isplitr [Hp]
  · isplitl [Hd]; · iexact Hd
    isplitl [Hst]; · iexact Hst
    isplitl [Hsu]; · iexact Hsu
    iapply (scoped_in c); iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  have hs : (Pipeline.ownSems0 osem c : sProp 𝕄) = each (ofStream (atZero c)) := own_split (atZero c)
  rw [show (pdats m 0 c).Φ (Fin.last _) = outside c from rfl, held_none, hs]
  unfold outside exit Yk
  iintro ⟨⟨Hb, Hz, Hbuf⟩, Hp⟩
  isplitl [Hbuf]; · iapply (scoped_out c); iexact Hbuf
  isplitl [Hp]; · iexact Hp
  isplitr; · iempintro
  isplitl [Hz]; · iexact Hz
  iexact Hb

/-! ## The segment -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem O₀_from (c : Dev nD) : From 1 (O₀ c) := by
  unfold O₀
  exact ((bar_from.mono (by decide)).add (From.tally (right c) _ 1 (by decide) (Nat.le_refl 1))).add
    (From.tally (left c) _ 1 (by decide) (Nat.le_refl 1))

theorem cut (c : Dev nD) (t : Fin ((Pipeline.pin (pcfgs (F := F)) adm 0).N + 1)) (g : GSem nD τ sig) (i : ℕ)
    (h : 0 < (pdats m 0 c).owed t g i) : i ∈ L g ∧ 0 < lv g i := by
  have e : (pdats m 0 c).owed t = if t.val = 0 then O₀ c else 0 := rfl
  rw [e] at h
  split at h
  · exact ⟨(O₀_from c g i h).1, (O₀_from c g i h).2⟩
  · exact absurd h (Nat.lt_irrefl 0)

theorem arr_first (c : Dev nD) : ∀ w, (pdats m 0 c).arrAt w 0 = V₁ m c (Proc.devRef .tc (Pipeline.arrRef (Pipeline.pin (pcfgs (F := F)) adm 0).spec w))
  | 0 | 1 | 2 | 3 => rfl

theorem arr_last (c : Dev nD) : ∀ w, (pdats m 0 c).arrAt w (Pipeline.pin (pcfgs (F := F)) adm 0).N
      = V₂ m c (Proc.devRef .tc (Pipeline.arrRef (Pipeline.pin (pcfgs (F := F)) adm 0).spec w))
  | 0 => ((dat m c).arrAt_in 0 rfl _).trans (Function.update_of_ne (show Proc.devRef (τ := τ) .tc main_arg0 ≠ Proc.devRef .tc main_v3 by decide) (out m c) (V₁ m c)).symm
  | 1 => ((dat m c).arrAt_in 1 rfl _).trans (Function.update_of_ne (show Proc.devRef (τ := τ) .tc main_arg1 ≠ Proc.devRef .tc main_v3 by decide) (out m c) (V₁ m c)).symm
  | 2 => ((dat m c).arrAt_in 2 rfl _).trans (Function.update_of_ne (show Proc.devRef (τ := τ) .tc main_v2 ≠ Proc.devRef .tc main_v3 by decide) (out m c) (V₁ m c)).symm
  | 3 => (show (dat m c).arrAt 3 cfg0.N = out m c from
      (dat m c).arrAt_eq_of_after_last 3 t0_0 (by decide +kernel) _ fun j => by blk_simp; rfl).trans (V₂_out m c).symm

set_option backward.isDefEq.respectTransparency.types false in
def region : Pipeline.RegionSeg (pcfgs (F := F)) adm (pdats m) 0 defs₀ 𝒱₀ L lv 0 :=
  Pipeline.RegionSeg.ofTalk (pcfgs (F := F)) adm (pdats m) 0 defs₀ 𝒱₀ L lv 0 osem (by decide : Pipeline.OwnSemFacts spec0 osem)
    ∅ (bufs \ arrs) (Finset.empty_subset _) kit rfl (fun c => (body m c).loose)
    (fun _ => 0) O₀ (fun c => (owed_first m c).trans (zero_add _).symm) (owed_last m) (fun _ => rfl)
    (fun c w => by match w with | 0 | 1 | 2 | 3 => rfl)
    (V₁ m) (V₂ m) (V₂_rest m) (Tk m) Yk (Xk m) Yk (hopen m) (hin m) (hout m)
    (fun c => by iintro H; imodintro; iexact H)
    (fun _ => 0)
    ⟨fun c w s => by rw [L_tc]; decide, fun _ _ _ => Nat.le_refl 0, fun c t g i h => cut m c t g i h⟩
    (fun _ => iprop(emp))
    (arr_first m) (arr_last m)

end Cert.KernelIdeal.Ring

end
-- ==== Proof.Ring.Deal.lean ====
/- The launch's ghost state dealt out: every duty's token to the device that discharges it, every write's token to the
   device that writes, every unit owed to the device that waits for it. -/
module

public import proofs.«01_k».proof.Proof.Ring.Segment
public import Idealize.ShloMosaic.Lib.SparseCore.Launch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Facts₀ Facts Gen

variable {F : FTy → Type} [FloatOps F]

local notation "𝕄" => MT nD τ sig ℕ (Elt F) ℕ UU ℕ

/-! ## Around the ring -/

/-- The two turns of the ring, and of each stream. -/
def turnLeft : Dev nD ≃ Dev nD := ⟨left, right, right_left, left_right⟩
def turnRight : Dev nD ≃ Dev nD := ⟨right, left, left_right, right_left⟩
def turnDown : Dev nD × Fin 4 ≃ Dev nD × Fin 4 :=
  ⟨fun x => (down x.1 x.2, x.2), fun x => (up x.1 x.2, x.2), fun x => Prod.ext (up_down x.1 x.2) rfl, fun x => Prod.ext (down_up x.1 x.2) rfl⟩
def turnUp : Dev nD × Fin 4 ≃ Dev nD × Fin 4 := turnDown.symm

/-- What every device has for every stream, taken all together. -/
theorem all_streams (Φ : Dev nD → Fin 4 → sProp 𝕄) :
    (bigSep Finset.univ fun c => each (Φ c)) = bigSep Finset.univ fun x : Dev nD × Fin 4 => Φ x.1 x.2 := by
  rw [bigSep_univ_prod]
  exact bigSep_congr fun c _ => (each_eq (Φ c)).symm

theorem all_down (Φ : Dev nD → Fin 4 → sProp 𝕄) :
    (bigSep Finset.univ fun c => each (Φ c)) = bigSep Finset.univ fun c => each fun q => Φ (down c q) q := by
  rw [all_streams, all_streams, bigSep_univ_equiv turnDown]; rfl
theorem all_up (Φ : Dev nD → Fin 4 → sProp 𝕄) :
    (bigSep Finset.univ fun c => each (Φ c)) = bigSep Finset.univ fun c => each fun q => Φ (up c q) q := by
  rw [all_streams, all_streams, bigSep_univ_equiv turnUp]; rfl

/-! ## Counting with natural numbers -/

def shift : Fin 13 ↪ ℕ := ⟨fun i => i.val + 1, fun _ _ h => Fin.ext (Nat.succ.inj h)⟩

theorem over_messages (Φ : ℕ → sProp 𝕄) : (bigSep Finset.univ fun k : Fin 15 => Φ k.val) = bigSep (Finset.Ico 0 15) Φ := by
  rw [show Finset.Ico 0 15 = Finset.univ.map (Fin.valEmbedding (n := 15)) from by decide, bigSep_map]; rfl
theorem over_credits (Φ : ℕ → sProp 𝕄) : (bigSep Finset.univ fun t : Fin 13 => Φ (t.val + 1)) = bigSep (Finset.Ico 1 14) Φ := by
  rw [show Finset.Ico 1 14 = Finset.univ.map shift from by decide, bigSep_map]; rfl

theorem slot_round {k k' : ℕ} (h : slotOf k = slotOf k') (h' : k / 2 = k' / 2) : k = k' := by
  have := congrArg Fin.val h
  unfold slotOf at this
  dsimp only at this
  omega

/-! ## The duties of one device's counters -/

/-- The duties: two units at the barrier; each stream's arrivals, departures and credits. -/
abbrev Duty : Type := Fin 2 ⊕ (Fin 4 × (Fin 15 ⊕ (Fin 15 ⊕ Fin 13)))

def duty : Duty → SemLoc sig × ℕ × ℕ
  | .inl n => (.reg bar, 0, n.val)
  | .inr (q, .inl k) => (.dma (semAt (rArr q) (slotOf k.val)), k.val / 2, 0)
  | .inr (q, .inr (.inl k)) => (.dma (semAt (sArr q) (slotOf k.val)), k.val / 2, 0)
  | .inr (q, .inr (.inr t)) => (.reg (crd q), 0, t.val + 1)

theorem duty_role (x : Duty) : role (duty x).1 = match x with
    | .inl _ => .barrier
    | .inr (q, .inl k) => .arrive q (slotOf k.val)
    | .inr (q, .inr (.inl k)) => .depart q (slotOf k.val)
    | .inr (q, .inr (.inr _)) => .credit q :=
  match x with
  | .inl _ => role_bar
  | .inr (q, .inl _) => role_rcv q _
  | .inr (q, .inr (.inl _)) => role_snd q _
  | .inr (q, .inr (.inr _)) => role_crd q

theorem duty_inj : Function.Injective duty := fun x y h => by
  have hr := congrArg (fun d => role d.1) h
  have h1 := congrArg (fun d => d.2.1) h
  have h2 := congrArg (fun d => d.2.2) h
  rw [duty_role, duty_role] at hr
  rcases x with n | ⟨q, k | k | t⟩ <;> rcases y with n' | ⟨q', k' | k' | t'⟩ <;> dsimp only at hr <;> injection hr
  · exact congrArg _ (Fin.ext h2)
  · rename_i hq hs; subst hq; exact congrArg (fun k => Sum.inr (q, Sum.inl k)) (Fin.ext (slot_round hs h1))
  · rename_i hq hs; subst hq; exact congrArg (fun k => Sum.inr (q, Sum.inr (Sum.inl k))) (Fin.ext (slot_round hs h1))
  · rename_i hq; subst hq; exact congrArg (fun t => Sum.inr (q, Sum.inr (Sum.inr t))) (Fin.ext (Nat.succ.inj h2))

def dutyAt : Dev nD × Duty ↪ GSem nD τ sig × ℕ × ℕ :=
  ⟨fun x => (((x.1 : Dev nD) : Thread nD τ), (duty x.2).1) |> fun g => (g, (duty x.2).2), fun x y h =>
    Prod.ext (congrArg (fun t : GSem nD τ sig × ℕ × ℕ => t.1.1.1) h)
      (duty_inj (Prod.ext (congrArg (fun t : GSem nD τ sig × ℕ × ℕ => t.1.2) h) (congrArg (fun t : GSem nD τ sig × ℕ × ℕ => t.2) h)))⟩

/-- All duties. -/
def talkToks : Finset (GSem nD τ sig × ℕ × ℕ) := Finset.univ.map dutyAt

/-- One device's duties, by counter. -/
def arrivals (c : Dev nD) (q : Fin 4) : sProp 𝕄 := bigSep (Finset.Ico 0 15) fun k => dutyTok ER (rcvCell c q (slotOf k)) (k / 2) 0
def departs (c : Dev nD) (q : Fin 4) : sProp 𝕄 := bigSep (Finset.Ico 0 15) fun k => dutyTok ER (sndCell c q (slotOf k)) (k / 2) 0
def grants (c : Dev nD) (q : Fin 4) : sProp 𝕄 := bigSep (Finset.Ico 1 14) fun t => dutyTok ER (crdCell c q) 0 t
def writes (c : Dev nD) (q : Fin 4) : sProp 𝕄 := bigSep (Finset.Ico 0 15) fun k => writeTok EK (c, q, slotOf k) (k / 2 + 1)

theorem toks_split : bigSep talkToks (fun x => (dutyTok ER x.1 x.2.1 x.2.2 : sProp 𝕄))
    = bigSep Finset.univ fun c => iprop((dutyTok ER (barCell c) 0 0 ∗ dutyTok ER (barCell c) 0 1)
        ∗ each fun q => iprop(arrivals c q ∗ departs c q ∗ grants c q)) := by
  unfold talkToks
  rw [bigSep_map, bigSep_univ_prod]
  refine bigSep_congr fun c _ => ?_
  rw [bigSep_univ_sum, BI.bigSep_fin_two, bigSep_univ_prod, ← each_eq]
  refine congrArg _ (bigSep_congr fun q _ => ?_)
  rw [bigSep_univ_sum, bigSep_univ_sum]
  unfold arrivals departs grants
  rw [← over_messages, ← over_messages, ← over_credits]
  rfl

/-! ## The receive slots -/

def writeAt : (Dev nD × Fin 4) × Fin 15 ↪ Key × ℕ :=
  ⟨fun x => ((x.1.1, x.1.2, slotOf x.2.val), x.2.val / 2), fun x y h =>
    Prod.ext (Prod.ext (congrArg (fun t : Key × ℕ => t.1.1) h) (congrArg (fun t : Key × ℕ => t.1.2.1) h))
      (Fin.ext (slot_round (congrArg (fun t : Key × ℕ => t.1.2.2) h) (congrArg Prod.snd h)))⟩

theorem writes_split : bigSep (Finset.univ ×ˢ Finset.range 8) (fun x : Key × ℕ => (writeTok EK x.1 (x.2 + 1) : sProp 𝕄))
    ⊢ bigSep Finset.univ fun c => each (writes c) := by
  have hsub : Finset.univ.map writeAt ⊆ (Finset.univ : Finset Key) ×ˢ Finset.range 8 := fun x hx => by
    obtain ⟨y, -, rfl⟩ := Finset.mem_map.mp hx
    refine Finset.mem_product.mpr ⟨Finset.mem_univ _, Finset.mem_range.mpr ?_⟩
    show y.2.val / 2 < 8
    have := y.2.isLt
    omega
  refine BIBase.Entails.trans (bigSep_subset hsub) ?_
  rw [bigSep_map, bigSep_univ_prod, all_streams]
  exact Entails.of_eq (bigSep_congr fun x _ => over_messages fun k => writeTok EK (x.1, x.2, slotOf k) (k / 2 + 1))

theorem readers_split : bigSep Finset.univ (fun k : Key => (readerAt EK k 0 : sProp 𝕄))
    = bigSep Finset.univ fun c => each fun q => iprop(readerAt EK (c, q, 0) 0 ∗ readerAt EK (c, q, 1) 0) := by
  rw [bigSep_univ_prod]
  refine bigSep_congr fun c _ => ?_
  rw [bigSep_univ_prod, ← each_eq]
  exact bigSep_congr fun q _ => BI.bigSep_fin_two _

/-! ## Dealt -/

/-- The tokens a device is dealt. -/
def gifts (c : Dev nD) : sProp 𝕄 :=
  iprop((dutyTok ER (barCell (left c)) 0 0 ∗ dutyTok ER (barCell (right c)) 0 1)
    ∗ each fun q => iprop(bigSep (Finset.Ico 0 15) (msgTok c q) ∗ bigSep (Finset.Ico 1 14) (crdTok c q)))

theorem gifts_eq (c : Dev nD) : gifts (F := F) c
    = iprop((dutyTok ER (barCell (left c)) 0 0 ∗ dutyTok ER (barCell (right c)) 0 1)
      ∗ ((each fun q => arrivals (down c q) q) ∗ each (departs c) ∗ each fun q => writes (down c q) q) ∗ each fun q => grants (up c q) q) := by
  unfold gifts
  rw [← each_sep, ← each_sep, ← each_sep]
  refine congrArg _ (congrArg _ (funext fun q => ?_))
  unfold msgTok crdTok arrivals departs writes grants
  rw [bigSep_sep', bigSep_sep']

theorem deal : iprop(bigSep talkToks (fun x => (dutyTok ER x.1 x.2.1 x.2.2 : sProp 𝕄))
      ∗ bigSep (Finset.univ ×ˢ Finset.range 8) (fun x : Key × ℕ => (writeTok EK x.1 (x.2 + 1) : sProp 𝕄)))
    ⊢ bigSep Finset.univ fun c => gifts c := by
  have e : (bigSep Finset.univ fun c => gifts (F := F) c)
      = iprop(((bigSep Finset.univ fun c => dutyTok ER (barCell c) 0 0) ∗ bigSep Finset.univ fun c => dutyTok ER (barCell c) 0 1)
        ∗ ((bigSep Finset.univ fun c => each (arrivals c)) ∗ (bigSep Finset.univ fun c => each (departs c)) ∗ bigSep Finset.univ fun c => each (writes c))
        ∗ bigSep Finset.univ fun c => each (grants c)) := by
    rw [bigSep_univ_equiv turnLeft (fun c => dutyTok ER (barCell c) 0 0), bigSep_univ_equiv turnRight (fun c => dutyTok ER (barCell c) 0 1),
      all_down arrivals, all_down writes, all_up grants, ← bigSep_sep', ← bigSep_sep', ← bigSep_sep', ← bigSep_sep', ← bigSep_sep']
    exact bigSep_congr fun c _ => gifts_eq c
  have s : (bigSep Finset.univ fun c => iprop((dutyTok ER (barCell c) 0 0 ∗ dutyTok ER (barCell c) 0 1)
        ∗ each fun q => iprop(arrivals (F := F) c q ∗ departs c q ∗ grants c q)))
      = iprop(((bigSep Finset.univ fun c => dutyTok ER (barCell c) 0 0) ∗ bigSep Finset.univ fun c => dutyTok ER (barCell c) 0 1)
        ∗ (bigSep Finset.univ fun c => each (arrivals c)) ∗ (bigSep Finset.univ fun c => each (departs c)) ∗ bigSep Finset.univ fun c => each (grants c)) := by
    rw [← bigSep_sep', ← bigSep_sep', ← bigSep_sep', ← bigSep_sep']
    exact bigSep_congr fun c _ => by rw [each_sep, each_sep]
  rw [e, toks_split, s]
  iintro ⟨⟨Hb, Ha, Hd, Hg⟩, Hw⟩
  ihave Hw' := writes_split $$ Hw
  isplitl [Hb]; · iexact Hb
  isplitr [Hg]
  · isplitl [Ha]; · iexact Ha
    isplitl [Hd]; · iexact Hd
    iexact Hw'
  iexact Hg

/-! ## The units owed -/

/-- The credit a device waits with. -/
def claims (c : Dev nD) : sProp 𝕄 :=
  iprop(cred (tallyAt (barCell c) 1 2) ∗ each fun q => iprop(bigSep (Finset.Ico 0 15) (msgCred c q) ∗ bigSep (Finset.Ico 1 14) (crdCred c q)))

theorem claim_stream (c : Dev nD) (q : Fin 4) : (Pipeline.launchCred (fun d => owed d q 0 1) c : sProp 𝕄)
    ⊢ iprop(bigSep (Finset.Ico 0 15) (msgCred c q) ∗ bigSep (Finset.Ico 1 14) (crdCred c q)) := by
  unfold owed
  rw [Pipeline.launchCred_add, Pipeline.launchCred_sum, Pipeline.launchCred_sum]
  exact BIClass.sep_mono
    (bigSep_mono fun k _ => Pipeline.launchCred_tallyAt (.dma (semAt (rArr q) (slotOf k))) (down · q) (up · q) (down_up · q) (up_down · q) (k + 2) N c)
    (bigSep_mono fun t _ => Pipeline.launchCred_tallyAt (.reg (crd q)) (up · q) (down · q) (up_down · q) (down_up · q) (t + 2) 1 c)

theorem claim (c : Dev nD) : (Pipeline.launchCred O₀ c : sProp 𝕄) ⊢ claims c := by
  have e : (O₀ : Dev nD → CellTallies nD τ sig ℕ)
      = fun d => owed d 0 0 1 + owed d 1 0 1 + owed d 2 0 1 + owed d 3 0 1 + tallyAt (barCell (right d)) 1 1 + tallyAt (barCell (left d)) 1 1 := rfl
  have hb : (tallyAt (barCell c) 1 2 : CellTallies nD τ sig ℕ) = tallyAt (barCell c) 1 1 + tallyAt (barCell c) 1 1 := (tallyAt_add (barCell c) 1 1 1).symm
  rw [e, Pipeline.launchCred_add, Pipeline.launchCred_add, Pipeline.launchCred_add, Pipeline.launchCred_add, Pipeline.launchCred_add]
  unfold claims each
  rw [hb]
  iintro ⟨⟨⟨⟨⟨H0, H1⟩, H2⟩, H3⟩, HR⟩, HL⟩
  isplitl [HR HL]
  · iapply (cred_add _ _).2
    isplitl [HR]
    · iapply (Pipeline.launchCred_tallyAt (.reg bar) right left right_left left_right 1 1 c) $$ HR
    iapply (Pipeline.launchCred_tallyAt (.reg bar) left right left_right right_left 1 1 c) $$ HL
  isplitl [H0]; · iapply (claim_stream c 0) $$ H0
  isplitl [H1]; · iapply (claim_stream c 1) $$ H1
  isplitl [H2]; · iapply (claim_stream c 2) $$ H2
  iapply (claim_stream c 3) $$ H3

end Cert.KernelIdeal.Ring

end
-- ==== Proof.Ring.Launch.lean ====
/- The program's run: launched from any memory, it ends with the kernel's result in place, its arguments as they were, and
   every counter at zero. -/
module

public import proofs.«01_k».proof.Proof.Ring.Deal

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat BodyObligation)
open Facts₀ Facts Gen

variable {F : FTy → Type} [FloatOps F]

local notation "𝕄" => MT nD τ sig ℕ (Elt F) ℕ UU ℕ

variable (m : (ℓ : Loc nD τ sig) → Buf (Elt F) ℓ) (ρ : Dev nD → PrngReg)

/-! ## The program as segments -/

/-- What rides beside the buffers up to the region. -/
def beside (c : Dev nD) : sProp 𝕄 := iprop(Tk m c ∗ (∃ r, prngReg c r) ∗ ∃ W, owes (c : Thread nD τ) (O₀ c) W)

/-- What the two array operations before the region touch, and that neither makes a buffer. -/
theorem host_sub : ∀ op ∈ (hostOps0 : List (HloOp τ sig (Elt F))), op.bufs ⊆ bufs := by
  intro op h
  rcases List.mem_pair.mp h with rfl | rfl
  · show ({Proc.devRef .tc main_arg2, Proc.devRef .tc main_arg3, Proc.devRef .tc main_v1} : Finset (DevRef τ sig)) ⊆ bufs; decide
  · show ({Proc.devRef .tc main_v1, Proc.devRef .tc main_v2} : Finset (DevRef τ sig)) ⊆ bufs; decide
theorem host_fresh : ∀ op ∈ (hostOps0 : List (HloOp τ sig (Elt F))), op.fresh = ∅ := by
  intro op h
  rcases List.mem_pair.mp h with rfl | rfl <;> rfl

def host : Pipeline.HostSeg (Ix := ℕ) (Name := ℕ) (U := UU) (Lvl := ℕ) (pcfgs (F := F)) defs₀ 𝒱₀ L lv :=
  Pipeline.HostSeg.ofOps _ _ _ _ _ bufs hostOps0 host_sub host_fresh (V₀ m) (beside m)

def segs : List (Pipeline.Seg (pcfgs (F := F)) adm (pdats m) 0 defs₀ 𝒱₀ L lv) := [.host (host m), .region (region m)]

theorem region_pre (c : Dev nD) : iprop(StableHlo.held (c : Thread nD τ) bufs (V₁ m c) ∗ beside m c) ⊢ (region m).pre c := by
  show _ ⊢ iprop(StableHlo.held (c.tc : Thread nD τ) arrs (V₁ m c) ∗ (∃ r, prngReg c r)
    ∗ (StableHlo.held (c.tc : Thread nD τ) (bufs \ arrs) (V₁ m c) ∗ emp) ∗ Tk m c ∗ ∃ Wd, owes (c : Thread nD τ) (0 + O₀ c) Wd)
  rw [zero_add, StableHlo.held_sub_split (c.tc : Thread nD τ) arrs_bufs (V₁ m c)]
  unfold beside
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem region_post (c : Dev nD) : (region m).post c
    ⊢ iprop((StableHlo.held (c : Thread nD τ) bufs (V₂ m c) ∗ semVal (barCell c) 0) ∗ ∃ W, owes (c : Thread nD τ) (0 : CellTallies nD τ sig ℕ) W) := by
  show iprop(StableHlo.held (c.tc : Thread nD τ) arrs (V₂ m c) ∗ (∃ r, prngReg c r)
    ∗ (StableHlo.held (c.tc : Thread nD τ) (bufs \ arrs) (V₂ m c) ∗ emp) ∗ Yk c ∗ ∃ Wd, owes (c : Thread nD τ) (0 : CellTallies nD τ sig ℕ) Wd) ⊢ _
  rw [StableHlo.held_sub_split (c.tc : Thread nD τ) arrs_bufs (V₂ m c)]
  unfold Yk
  iintro ⟨Ha, -, ⟨Hr, -⟩, Hb, HO⟩
  isplitr [HO]
  · isplitl [Ha Hr]
    · isplitl [Ha]; · iexact Ha
      iexact Hr
    iexact Hb
  iexact HO

/-! ## The launch -/

theorem cells_disjoint : Disjoint barCells ownCells := by
  rw [Finset.disjoint_left]
  intro g h h'
  obtain ⟨c, -, rfl⟩ := Finset.mem_image.mp h
  obtain ⟨⟨d, o⟩, -, e⟩ := Finset.mem_image.mp h'
  have hr := congrArg (fun g : GSem nD τ sig => role g.2) e
  rcases o with ⟨q, b | b | u⟩ <;> dsimp only [osem] at hr
  · rw [role_snd, role_bar] at hr; injection hr
  · rw [role_rcv, role_bar] at hr; injection hr
  · rw [role_crd, role_bar] at hr; injection hr

theorem osem_facts : Pipeline.OwnSemFacts spec0 osem := by decide

theorem over_bars (Φ : GSem nD τ sig → sProp 𝕄) : bigSep barCells Φ = bigSep Finset.univ fun c => Φ (barCell c) :=
  SparseCore.bigSep_image_of_injOn (fun _ _ _ _ h => congrArg (fun g : GSem nD τ sig => g.1.1) h) Φ
theorem over_own (Φ : GSem nD τ sig → sProp 𝕄) :
    bigSep ownCells Φ = bigSep Finset.univ fun c : Dev nD => bigSep Finset.univ fun o : Own => Φ ((c : Thread nD τ), osem o) := by
  unfold ownCells
  rw [SparseCore.bigSep_image_of_injOn (fun x _ y _ h => Prod.ext (congrArg (fun g : GSem nD τ sig => g.1.1) h)
    (osem_facts.inj (congrArg Prod.snd h))) Φ, bigSep_univ_prod]

/-- The protocol's launch elements: the counters' and the slots'. -/
abbrev launch : URounds (GSem nD τ sig) ℕ × USlots Key :=
  (launchOf barCells ownCells talkToks, initSlots (Finset.univ : Finset Key) 8)
def u₀ : UU :=
  (initOf (Pipeline.cells (Pipeline.pin (pcfgs (F := F)) adm) cellOf_inj) (Pipeline.launchToks (Pipeline.pin (pcfgs (F := F)) adm) cellOf_inj), launch)

/-- All of it waits on device 0 for the launch's one common step. -/
def parked (c : Dev nD) : sProp 𝕄 := if c = 0 then BI.own (EX launch) else iprop(emp)
theorem parked_all : bigSep Finset.univ (parked (F := F)) = BI.own (EX launch) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- The tokens and positions a device gets. -/
def share (c : Dev nD) : sProp 𝕄 :=
  iprop(atPos ER (barCell c) 0 ∅ 0 ∗ (bigSep Finset.univ fun o : Own => openTok ER ((c : Thread nD τ), osem o))
    ∗ (each fun q => iprop(readerAt EK (c, q, 0) 0 ∗ readerAt EK (c, q, 1) 0)) ∗ gifts c)
/-- What all devices may consult. -/
def common (K : GSem nD τ sig → ℕ) (KS : Key → ℕ) : sProp 𝕄 :=
  iprop(records (opX m) (opW m) K KS ∗ bigSep Finset.univ fun c => reached ER (barCell c) 0)
instance common_persistent (K : GSem nD τ sig → ℕ) (KS : Key → ℕ) : BI.Persistent (common m K KS) := by unfold common; infer_instance

theorem common_reached (K : GSem nD τ sig → ℕ) (KS : Key → ℕ) (c : Dev nD) : common m K KS ⊢ reached ER (barCell c) 0 := by
  have e : (bigSep Finset.univ fun c => reached ER (barCell c) 0) ⊢ (reached ER (barCell c) 0 : sProp 𝕄) := bigSep_elim (Finset.mem_univ c)
  unfold common
  iintro ⟨-, H⟩
  iapply e $$ H

/-- What a device has of the launch besides. -/
def bundle (c : Dev nD) : sProp 𝕄 :=
  iprop(StableHlo.held (c : Thread nD τ) bufs (V₀ m c) ∗ claims c ∗ owes (c : Thread nD τ) (O₀ c) ∅ ∗ ∃ r, prngReg c r)

abbrev T₀ (c : Dev nD) : sProp 𝕄 := iprop(StableHlo.held (c : Thread nD τ) bufs (V₀ m c) ∗ beside m c)
abbrev Tₙ (c : Dev nD) : sProp 𝕄 := iprop(StableHlo.held (c : Thread nD τ) bufs (V₂ m c) ∗ semVal (barCell c) 0)

theorem T₀_intro (K : GSem nD τ sig → ℕ) (KS : Key → ℕ) (c : Dev nD) : iprop(common m K KS ∗ (share c ∗ bundle m c)) ⊢ T₀ m c := by
  have hs : each (supply (F := F) c) = iprop((each fun q => iprop(readerAt EK (c, q, 0) 0 ∗ readerAt EK (c, q, 1) 0))
      ∗ (each fun q => iprop(bigSep (Finset.Ico 0 15) (msgTok c q) ∗ bigSep (Finset.Ico 1 14) (crdTok c q)))
      ∗ each fun q => iprop(bigSep (Finset.Ico 0 15) (msgCred c q) ∗ bigSep (Finset.Ico 1 14) (crdCred c q))) := by
    rw [← each_sep, ← each_sep]; rfl
  unfold share bundle T₀ beside Tk doorbell gifts claims
  rw [hs]
  iintro ⟨#HR, ⟨Ha, Ho, Hrd, Hb, Ht⟩, Hh, ⟨Hcb, Hc⟩, HO, Hp⟩
  isplitl [Hh]; · iexact Hh
  isplitr [HO Hp]
  · isplitr
    · iexists K, KS; unfold common; icases HR with ⟨HR, -⟩; iexact HR
    isplitl [Ha Hb Hcb]
    · isplitl [Ha]; · iexact Ha
      isplitr
      · isplitr; · iapply (common_reached m K KS (left c)); iexact HR
        iapply (common_reached m K KS (right c)); iexact HR
      isplitl [Hb]; · iexact Hb
      iexact Hcb
    isplitl [Hrd Ht Hc]
    · isplitl [Hrd]; · iexact Hrd
      isplitl [Ht]; · iexact Ht
      iexact Hc
    iexact Ho
  isplitl [Hp]; · iexact Hp
  iexists ∅; iexact HO

theorem bufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscoped_eq : (Finset.univ.filter fun sm : SemLoc sig => ¬ sm.isScoped .tc) = {SemLoc.reg bar} := by decide

/-- The launch's common step. -/
theorem fund : iprop((bigSep Finset.univ fun c : Dev nD => semVal (barCell c) 0) ∗ BI.own (EX launch))
    ⊢ (iprop(|={Set.univ}=> ∃ K KS, common m K KS ∗ bigSep Finset.univ (share (F := F))) : sProp 𝕄) := by
  iintro ⟨Hv, Hu⟩
  ihave H := (own_pair_emb EX _ _) $$ Hu
  icases H with ⟨HR, HK⟩
  imod (Rounds.fund_launch ER (sched (opX m) (opW m)) cells_disjoint (fun g _ h => h) talkToks) $$ [Hv HR] with ⟨%K, -, #Hinv, #Hre, Hat, Hop, Htok⟩
  · isplitl [Hv]; · iapply (Entails.of_eq (over_bars (fun g => semVal g 0)).symm) $$ Hv
    iexact HR
  imod (slots_init EK (Finset.univ : Finset Key) 8 (fun k => rcvAny (F := F) k.1 k.2.1 k.2.2)) $$ HK with ⟨%KS, -, #Hsl, Hrd, Hwr⟩
  imodintro
  iexists K, KS
  isplitr
  · unfold common records
    isplitr
    · isplitr; · iexact Hinv
      iexact Hsl
    iapply (Entails.of_eq (over_bars (fun g => reached ER g 0))) $$ Hre
  have e : bigSep Finset.univ (share (F := F)) = iprop((bigSep Finset.univ fun c => atPos ER (barCell c) 0 ∅ 0)
      ∗ (bigSep Finset.univ fun c : Dev nD => bigSep Finset.univ fun o : Own => openTok ER ((c : Thread nD τ), osem o))
      ∗ (bigSep Finset.univ fun c => each fun q => iprop(readerAt EK (c, q, 0) 0 ∗ readerAt EK (c, q, 1) 0)) ∗ bigSep Finset.univ gifts) := by
    rw [← bigSep_sep', ← bigSep_sep', ← bigSep_sep']; rfl
  rw [e]
  isplitl [Hat]; · iapply (Entails.of_eq (over_bars (fun g => atPos ER g 0 ∅ 0))) $$ Hat
  isplitl [Hop]; · iapply (Entails.of_eq (over_own (fun g => openTok ER g))) $$ Hop
  isplitl [Hrd]; · iapply (Entails.of_eq readers_split) $$ Hrd
  iapply deal
  isplitl [Htok]; · iexact Htok
  iexact Hwr

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (T₀ m) : sProp 𝕄) := by
  have one (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ parked c)
      ⊢ (iprop(bundle m c ∗ (semVal (barCell c) 0 ∗ parked c)) : sProp 𝕄) := by
    rw [show unscopedBufs c (fun b => m ((c : Thread nD τ).loc b)) = StableHlo.held (c : Thread nD τ) bufs (V₀ m c) from bufs_held c (V₀ m c)]
    unfold bundle unscopedSems0
    rw [unscoped_eq, bigSep_singleton]
    iintro ⟨Hh, Hv, HO, Hcr, Hp, HG⟩
    isplitl [Hh HO Hcr Hp]
    · isplitl [Hh]; · iexact Hh
      isplitl [Hcr]; · iapply (claim c) $$ Hcr
      isplitl [HO]; · iexact HO
      iexists (ρ c); iexact Hp
    isplitl [Hv]; · iexact Hv
    iexact HG
  have all : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ parked c))
      ⊢ (iprop(bigSep Finset.univ (bundle m) ∗ ((bigSep Finset.univ fun c : Dev nD => semVal (barCell c) 0) ∗ BI.own (EX launch))) : sProp 𝕄) := by
    rw [← parked_all, ← bigSep_sep', ← bigSep_sep']
    exact bigSep_mono fun c _ => one c
  iintro ⟨H, -⟩
  ihave H' := all $$ H
  icases H' with ⟨HB, Hf⟩
  imod (fund m) $$ Hf with ⟨%K, %KS, #HR, Hs⟩
  imodintro
  iapply (bigSep_with_persistent (R := common m K KS) (Φ := fun c => iprop(share c ∗ bundle m c)) fun c _ => T₀_intro m K KS c)
  isplitr; · iexact HR
  iapply (Entails.of_eq (bigSep_sep' Finset.univ share (bundle m)).symm)
  isplitl [Hs]; · iexact Hs
  iexact HB

end Cert.KernelIdeal.Ring

end
-- ==== Proof.Ring.Whole.lean ====
/- The whole program's run, from any memory. -/
module

public import proofs.«01_k».proof.Proof.Ring.Launch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat BodyObligation)
open Facts₀ Facts Gen

variable {F : FTy → Type} [FloatOps F]

local notation "𝕄" => MT nD τ sig ℕ (Elt F) ℕ UU ℕ

variable (m : (ℓ : Loc nD τ sig) → Buf (Elt F) ℓ) (ρ : Dev nD → PrngReg)

/-- The buffers the claims speak of. -/
def told : Finset (DevRef τ sig) :=
  {Proc.devRef .tc main_arg0, Proc.devRef .tc main_arg1, Proc.devRef .tc main_arg2, Proc.devRef .tc main_arg3, Proc.devRef .tc main_v3}
theorem told_bufs : told ⊆ bufs := by decide

/-- The operations before the region write the scale only. -/
theorem V₁_same (c : Dev nD) {b : DevRef τ sig} (h1 : b ≠ Proc.devRef .tc main_v1) (h2 : b ≠ Proc.devRef .tc main_v2) :
    V₁ m c b = m (c, b) :=
  StableHlo.after_of_forall_not_mem (b := b) _ _ fun op h => by
    rcases List.mem_pair.mp h with rfl | rfl
    · rw [StableHlo.binary_writes, Finset.mem_singleton]; exact h1
    · rw [StableHlo.reshape_writes, Finset.mem_singleton]; exact h2

theorem V₂_same (c : Dev nD) {b : DevRef τ sig} (h1 : b ≠ Proc.devRef .tc main_v1) (h2 : b ≠ Proc.devRef .tc main_v2)
    (h3 : b ≠ Proc.devRef .tc main_v3) : V₂ m c b = m (c, b) :=
  (Function.update_of_ne h3 (out m c) (V₁ m c)).trans (V₁_same m c h1 h2)

/-- The ones told of, taken out one by one. -/
theorem told_eq (c : Dev nD) (W : Valuation τ sig (Elt F)) : (StableHlo.held (c : Thread nD τ) told W : sProp 𝕄)
    = iprop(((c, Proc.devRef .tc main_arg0) ↦{fullShare} W (Proc.devRef .tc main_arg0)) ∗ ((c, Proc.devRef .tc main_arg1) ↦{fullShare} W (Proc.devRef .tc main_arg1))
        ∗ ((c, Proc.devRef .tc main_arg2) ↦{fullShare} W (Proc.devRef .tc main_arg2)) ∗ ((c, Proc.devRef .tc main_arg3) ↦{fullShare} W (Proc.devRef .tc main_arg3))
        ∗ ((c, Proc.devRef .tc main_v3) ↦{fullShare} W (Proc.devRef .tc main_v3))) := by
  unfold StableHlo.held
  rw [bigSep_eq_bigSepL_of_eq [Proc.devRef .tc main_arg0, Proc.devRef .tc main_arg1, Proc.devRef .tc main_arg2, Proc.devRef .tc main_arg3,
    Proc.devRef .tc main_v3] (by decide) (by decide)]
  rfl

/-- What a device's final memory reads. -/
def Ends (c : Dev nD) (s : MemSt nD τ sig (Elt F)) : Prop :=
  ((s.mem ((c : Thread nD τ).loc main_arg0) = V₂ m c (Proc.devRef .tc main_arg0) ∧ s.mem ((c : Thread nD τ).loc main_arg1) = V₂ m c (Proc.devRef .tc main_arg1))
    ∧ (s.mem ((c : Thread nD τ).loc main_arg2) = V₂ m c (Proc.devRef .tc main_arg2) ∧ s.mem ((c : Thread nD τ).loc main_arg3) = V₂ m c (Proc.devRef .tc main_arg3))
    ∧ s.mem ((c : Thread nD τ).loc main_v3) = V₂ m c (Proc.devRef .tc main_v3)) ∧ s.sem (barCell c) = 0

theorem main_eq (c : Dev nD) : main (F := F) c = Pipeline.Seg.run (segs m) :=
  main_segs adm (pdats m) 0 𝒱₀ L lv (host m) (region m) rfl c

theorem unscoped_bar : ∀ sm : SemLoc sig, sm.isScoped .tc = false → sm = .reg bar := by decide

set_option backward.isDefEq.respectTransparency.types false in
/-- From any memory with zero counters the program ends, its arguments as they were, its result the kernel's, every counter
    at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
        ∧ r.2.mem ((c : Thread nD τ).loc main_v3) = out m c) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := parked) (u₀ := u₀ (F := F))
    (hu₀ := by
      unfold u₀
      iintro Hu
      ihave H := (ownU_pair _ _) $$ Hu
      icases H with ⟨HP, HX⟩
      imodintro
      isplitl [HP]; · iexact HP
      rw [parked_all]; iexact HX)
    (T₀ := T₀ m) (Tₙ := Tₙ m)
    (hch := ⟨fun c => .rfl, fun c => region_pre m c, fun c => region_post m c⟩)
    (hinit := init m ρ)
    (QY := Ends m)
    (hfin := fun c s' => by
      dsimp only [Tₙ]; rw [StableHlo.held_sub_split (c : Thread nD τ) told_bufs (V₂ m c), told_eq]
      iintro ⟨⟨⟨⟨H0, H1, H2, H3, H4⟩, -⟩, Hb⟩, HSI⟩
      icombine HSI H0 gives %h0
      icombine HSI H1 gives %h1
      icombine HSI H2 gives %h2
      icombine HSI H3 gives %h3
      icombine HSI H4 gives %h4
      icombine HSI Hb gives %hb
      imodintro
      isplitr
      · ipureintro
        exact ⟨⟨⟨Buf.eq_of_forall_mem_univ h0, Buf.eq_of_forall_mem_univ h1⟩, ⟨Buf.eq_of_forall_mem_univ h2, Buf.eq_of_forall_mem_univ h3⟩,
          Buf.eq_of_forall_mem_univ h4⟩, by simpa using hb⟩
      iexact HSI)
    (hQ := fun s h hs => ⟨fun c => by
        obtain ⟨⟨⟨h0, h1⟩, ⟨h2, h3⟩, h4⟩, -⟩ := h c
        exact ⟨⟨h0.trans (V₂_same m c (by decide) (by decide) (by decide)), h1.trans (V₂_same m c (by decide) (by decide) (by decide)),
          h2.trans (V₂_same m c (by decide) (by decide) (by decide)), h3.trans (V₂_same m c (by decide) (by decide) (by decide))⟩,
          h4.trans (V₂_out m c)⟩,
      sem_eq_zero hs fun c sm hsm => by
        obtain rfl := unscoped_bar sm hsm
        exact (h c).2⟩)

end Cert.KernelIdeal.Ring

end
-- ==== Proof.Ring.Frames.lean ====
/- The claims that a program runs, keeps its arguments and leaves every counter at zero. -/
module

public import proofs.«01_k».proof.Defs
public import proofs.«01_k».proof.Proof.Gen.Kernel
public import proofs.«01_k».proof.Proof.Gen.ReferenceIdeal.Run
public import proofs.«01_k».proof.Proof.Ring.Whole

@[expose] public section

noncomputable section

namespace Cert.Proof

open Idealize.ShloMosaic Idealize.SL.Sem

set_option smartUnfolding false in
/-- The kernel and its idealization are one text under two names, so what holds of the one's runs holds of the other's. -/
theorem of_ideal {s : MemSt Cert.Kernel.nD Cert.Kernel.τ Cert.Kernel.sig (Elt Bits)}
    {Q : PUnit × MemSt Cert.Kernel.nD Cert.Kernel.τ Cert.Kernel.sig (Elt Bits) → Prop}
    (h : θ_run (Cert.KernelIdeal.defs (F := Bits)) (onTc (τ := Cert.KernelIdeal.τ) (Cert.KernelIdeal.main (F := Bits))) s Q) :
    θ_run (Cert.Kernel.defs (F := Bits)) (onTc (τ := Cert.Kernel.τ) (Cert.Kernel.main (F := Bits))) s Q := h

theorem frame_kernel : Cert.quiescent_Kernel := fun m ρ _ =>
  of_ideal ((θ_run Cert.KernelIdeal.defs _ _).mono (fun _ h => ⟨fun c => (h.1 c).1, h.2⟩) (KernelIdeal.Ring.run_main (F := Bits) m ρ))

theorem frame_kernelIdeal : Cert.quiescent_KernelIdeal := fun m ρ _ =>
  (θ_run Cert.KernelIdeal.defs _ _).mono (fun _ h => ⟨fun c => (h.1 c).1, h.2⟩) (KernelIdeal.Ring.run_main (F := Ideal) m ρ)

/-- The reference has no counters. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Value.Sums.lean ====
/- What the ring adds up, over the extended reals: each message is a sum over the devices behind its sender, and the last
   addition makes the sum over all sixteen. -/
module

public import proofs.«01_k».proof.Proof.Ring.Values
public import Idealize.ShloMosaic.Lib.IntMxu
public import Idealize.ShloMosaic.Lib.Pointwise.Tactic
public import Idealize.ShloMosaic.Lib.Pointwise.Contract
public import Idealize.ShloMosaic.Lib.Pointwise.Reshape

@[expose] public section

noncomputable section

namespace Cert.KernelIdeal.Ring

open Idealize.ShloMosaic Idealize.ShloMosaic.TcCoe
open Facts₀ Facts Gen

/-- A word as an extended real. -/
def real {n : ℕ} (b : BitVec n) : EReal := ((b.toInt : ℝ) : EReal)

/-- A sum of integers as a sum of extended reals. -/
theorem real_sum {ι : Type} (s : Finset ι) (f : ι → ℤ) : (((∑ i ∈ s, f i : ℤ) : ℝ) : EReal) = ∑ i ∈ s, ((f i : ℝ) : EReal) := by
  classical
  induction s using Finset.induction_on with
  | empty => simp
  | insert a s ha ih => rw [Finset.sum_insert ha, Finset.sum_insert ha, ← ih, Int.cast_add, EReal.coe_add]

/-- A block product, read as a number, is the sum of the products. -/
theorem real_prod (x : Vec Ideal S256x256 .i8) (w : Vec Ideal S256x2048 .i8) (i : S256x2048.Idx) :
    real (prod x w i) = ∑ j : Fin 256, real (x (ix2 (i 0) j)) * real (w (ix2 j (i 1))) := by
  have e : real (prod x w i) = Ideal.matmul dot_S256x256_S256x2048_S256x2048_1_0_0_1_n_n
      (fun a => real (shapeCast S256x256 x Gen.shapeCasts_S256x256_S256x256 a)) (fun a => real (shapeCast S256x2048 w Gen.shapeCasts_S256x2048_S256x2048 a))
      (fun _ => 0) i := by
    unfold real prod Ideal.matmul
    rw [matmulI8_toInt _ _ _ _ _ _ rfl ((absDotI8_le_numel _ _ _ _).trans (by decide))]
    unfold dotI8
    rw [real_sum, zero_add]
    exact Finset.sum_congr rfl fun k _ => by rw [Int.cast_mul, EReal.coe_mul]
  rw [e]
  pointwise

end Cert.KernelIdeal.Ring

end
-- ==== Proof.Value.Messages.lean ====
/- Every message of the ring is a sum over the devices behind its sender, so the last addition of a device makes the sum over
   all sixteen. -/
module

public import proofs.«01_k».proof.Proof.Value.Sums

@[expose] public section

noncomputable section

namespace Cert.KernelIdeal.Ring

open Idealize.ShloMosaic Idealize.ShloMosaic.TcCoe
open Facts₀ Facts Gen

/-! ## Which row block a device treats at a step -/

/-- The row block that device `d` treats at step `k` on stream `q`. -/
def blk (d : Dev nD) (k : ℕ) : Fin 4 → Dev nD
  | 0 | 1 => ⟨(d.val + 31 - k % 16) % 16, Nat.mod_lt _ (by decide)⟩
  | 2 | 3 => ⟨(d.val + k % 16 + 1) % 16, Nat.mod_lt _ (by decide)⟩

theorem chunkOff_eq (d : Dev nD) (k : ℕ) : ∀ q, chunkOff d (stepOf k) q = ![256 * (blk d k q).val, 0]
  | 0 | 1 => k0_off1_eq d (stepOf k)
  | 2 | 3 => k0_off2_eq d (stepOf k)

theorem left_val (d : Dev nD) : (left d).val = (d.val + 15) % 16 := k0_dev1_eq d
theorem right_val (d : Dev nD) : (right d).val = (d.val + 1) % 16 := k0_dev2_eq d

/-- The sender before treated the same block a step earlier. -/
theorem blk_up (c : Dev nD) {k : ℕ} (h : k < 15) : ∀ q, blk (up c q) k q = blk c (k + 1) q
  | 0 | 1 => Fin.ext <| by
    show ((left c).val + 31 - k % 16) % 16 = (c.val + 31 - (k + 1) % 16) % 16
    rw [left_val]; omega
  | 2 | 3 => Fin.ext <| by
    show ((right c).val + k % 16 + 1) % 16 = (c.val + (k + 1) % 16 + 1) % 16
    rw [right_val]; omega

/-- At the last step a device treats its own block. -/
theorem blk_last (c : Dev nD) : ∀ q, blk c 15 q = c
  | 0 | 1 => Fin.ext <| by
    have h : c.val < 16 := c.isLt
    show (c.val + 31 - 15 % 16) % 16 = c.val
    omega
  | 2 | 3 => Fin.ext <| by
    have h : c.val < 16 := c.isLt
    show (c.val + 15 % 16 + 1) % 16 = c.val
    omega

/-! ## Going backwards along a stream meets every device once -/

/-- The device `t` places before `c`. -/
def behind (q : Fin 4) (t : ℕ) (c : Dev nD) : Dev nD := (fun d => up d q)^[t] c

theorem behind_succ (q : Fin 4) (t : ℕ) (c : Dev nD) : behind q (t + 1) c = behind q t (up c q) := rfl

theorem behind_val_left (t : ℕ) (ht : t ≤ 16) (c : Dev nD) : ((left)^[t] c).val = (c.val + 16 - t) % 16 := by
  have hc : c.val < 16 := c.isLt
  induction t with
  | zero => show c.val = _; omega
  | succ t ih => rw [Function.iterate_succ_apply', left_val, ih (by omega)]; omega

theorem behind_val_right (t : ℕ) (c : Dev nD) : ((right)^[t] c).val = (c.val + t) % 16 := by
  have hc : c.val < 16 := c.isLt
  induction t with
  | zero => show c.val = _; omega
  | succ t ih => rw [Function.iterate_succ_apply', right_val, ih]; omega

theorem behind_injective (c : Dev nD) : ∀ q, Function.Injective (fun t : Fin 16 => behind q t.val c)
  | 0 | 1 => fun s t h => Fin.ext <| by
    have hc : c.val < 16 := c.isLt
    have e : ((left)^[s.val] c).val = ((left)^[t.val] c).val := congrArg Fin.val h
    rw [behind_val_left _ (by omega), behind_val_left _ (by omega)] at e
    omega
  | 2 | 3 => fun s t h => Fin.ext <| by
    have hc : c.val < 16 := c.isLt
    have e : ((right)^[s.val] c).val = ((right)^[t.val] c).val := congrArg Fin.val h
    rw [behind_val_right, behind_val_right] at e
    omega

/-- A sum over the sixteen devices behind `c`, itself among them, is the sum over all devices. -/
theorem sum_behind (q : Fin 4) (c : Dev nD) (f : Dev nD → EReal) : ∑ t ∈ Finset.range 16, f (behind q t c) = ∑ d, f d := by
  rw [Finset.sum_range (fun t => f (behind q t c))]
  exact Fintype.sum_bijective (fun t : Fin 16 => behind q t.val c)
    ((Fintype.bijective_iff_injective_and_card _).2 ⟨behind_injective c q, rfl⟩) _ f fun _ => rfl

/-! ## The sums -/

variable (X : Dev nD → Vec Ideal S4096x256 .i8) (Wt : Dev nD → Vec Ideal S256x8192 .i8)

/-- A row of block `b`. -/
def rowIn (b : Dev nD) (r : Fin 256) : Fin 4096 := ⟨256 * b.val + r.val, by have h : b.val < 16 := b.isLt; omega⟩
/-- A column of quarter `q`. -/
def colIn (q : Fin 4) (l : Fin 2048) : Fin 8192 := ⟨2048 * q.val + l.val, by omega⟩

/-- What device `d` adds to row block `b` in the column quarter `q`. -/
def term (d b : Dev nD) (q : Fin 4) (i : S256x2048.Idx) : EReal :=
  ∑ j : Fin 256, real (X d (ix2 (rowIn b (i 0)) j)) * real (Wt d (ix2 j (colIn q (i 1))))

theorem xAt_apply (c : Dev nD) (k : ℕ) (q : Fin 4) (r j : Fin 256) : xAt X c k q (ix2 r j) = X c (ix2 (rowIn (blk c k q) r) j) := by
  refine congrArg (X c) (funext fun a => Fin.ext ?_)
  match a with
  | 0 =>
    show chunkOff c (stepOf k) q 0 + 1 * r.val = 256 * (blk c k q).val + r.val
    rw [chunkOff_eq, Nat.one_mul]; rfl
  | 1 =>
    show chunkOff c (stepOf k) q 1 + 1 * j.val = j.val
    rw [chunkOff_eq, Nat.one_mul]; exact Nat.zero_add _

theorem wAt_apply (c : Dev nD) (q : Fin 4) (j : Fin 256) (l : Fin 2048) : wAt Wt c q (ix2 j l) = Wt c (ix2 j (colIn q l)) := by
  refine congrArg (Wt c) (funext fun a => Fin.ext ?_)
  match a with
  | 0 => show 0 + 1 * j.val = j.val; omega
  | 1 => show 2048 * q.val + 1 * l.val = 2048 * q.val + l.val; omega

/-- A device's own part at a step. -/
theorem real_own (c : Dev nD) (k : ℕ) (q : Fin 4) (i : S256x2048.Idx) :
    real (prod (xAt X c k q) (wAt Wt c q) i) = term X Wt c (blk c k q) q i := by
  rw [real_prod]
  exact Finset.sum_congr rfl fun j _ =>
    congrArg₂ (fun a b => real a * real b) (xAt_apply X c k q (i 0) j) (wAt_apply Wt c q j (i 1))

theorem own_apply (c : Dev nD) (k : ℕ) (q : Fin 4) (i : S256x2048.Idx) : own X Wt c k q i = term X Wt c (blk c k q) q i :=
  real_own X Wt c k q i

theorem firstMsg_apply (x : Vec Ideal S256x256 .i8) (w : Vec Ideal S256x2048 .i8) (i : S256x2048.Idx) :
    firstMsg x w (ix3 0 (i 0) (i 1)) = real (prod x w i) := by
  unfold firstMsg
  generalize prod x w = p
  have e : ix2 (i 0) (i 1) = i := (eq_ix2 i).symm
  pointwise
  rfl

theorem accum_apply (p : FVec Ideal S256x2048 .f32) (v : FVec Ideal S1x256x2048 .bf16) (i : S256x2048.Idx) :
    accum p v i = v (ix3 0 (i 0) (i 1)) + p i := by
  unfold accum
  pointwise

theorem nextMsg_apply (p : FVec Ideal S256x2048 .f32) (v : FVec Ideal S1x256x2048 .bf16) (i : S256x2048.Idx) :
    nextMsg p v (ix3 0 (i 0) (i 1)) = v (ix3 0 (i 0) (i 1)) + p i := by
  rw [← accum_apply]
  unfold nextMsg
  generalize accum p v = a
  pointwise

/-- A message is the sum of what the devices behind its sender add to the block. -/
theorem msg_apply (q : Fin 4) (i : S256x2048.Idx) : ∀ (k : ℕ), k < 16 → ∀ c : Dev nD, msg X Wt k c q (ix3 0 (i 0) (i 1))
    = ∑ t ∈ Finset.range (k + 1), term X Wt (behind q t c) (blk c k q) q i
  | 0, _, c => by
    rw [Finset.sum_range_one]
    exact (firstMsg_apply _ _ i).trans (real_own X Wt c 0 q i)
  | k + 1, h, c => by
    rw [Finset.sum_range_succ', ← blk_up c (by omega) q]
    show nextMsg (own X Wt c (k + 1) q) (msg X Wt k (up c q) q) (ix3 0 (i 0) (i 1)) = _
    rw [nextMsg_apply, msg_apply q i k (by omega), own_apply, ← blk_up c (by omega) q]
    rfl

/-- The last addition of a device. -/
theorem accum_last (c : Dev nD) (q : Fin 4) (i : S256x2048.Idx) :
    accum (own X Wt c 15 q) (msg X Wt 14 (up c q) q) i = ∑ d, term X Wt d c q i := by
  have e : accum (own X Wt c 15 q) (msg X Wt 14 (up c q) q) i = msg X Wt 15 c q (ix3 0 (i 0) (i 1)) :=
    (accum_apply _ _ i).trans (nextMsg_apply _ _ i).symm
  rw [e, msg_apply X Wt q i 15 (by decide) c, blk_last]
  exact sum_behind q c fun d => term X Wt d c q i

end Cert.KernelIdeal.Ring

end
-- ==== Proof.Value.Reference.lean ====
/- The reference's result at an index, over the extended reals, in the kernel's terms: the product of the whole matrices is a
   sum over the devices, and dividing by 1 + exp is multiplying by the logistic function. -/
module

public import proofs.«01_k».proof.Proof.Value.Messages
public import proofs.«01_k».proof.Proof.Gen.ReferenceIdeal.Run
public import Idealize.ShloMosaic.Lib.IdealHost

@[expose] public section

noncomputable section

namespace Cert.ReferenceIdeal.Value

open Idealize.ShloMosaic Idealize.ShloMosaic.TcCoe
open Cert.ReferenceIdeal Cert.ReferenceIdeal.Gen
open Cert.KernelIdeal.Ring (real)

/-! ## The activation -/

/-- The activation of a number. -/
def act (y : EReal) : EReal :=
  y * Ideal.logistic (min (Ideal.ofBits .f32 0x42700000#32) (max (Ideal.ofBits .f32 0xC2700000#32) y))

theorem exp_nonneg : ∀ x : EReal, 0 ≤ Ideal.exp x
  | ⊥ => le_refl _
  | ⊤ => le_top
  | (r : ℝ) => EReal.coe_nonneg.2 (Real.exp_nonneg r)

theorem one_add_exp_ne_zero (x : EReal) : 1 + Ideal.exp x ≠ 0 := fun e => by
  have h : (1 : EReal) ≤ 1 + Ideal.exp x := le_add_of_nonneg_right (exp_nonneg x)
  rw [e] at h
  exact absurd h (by simp)

theorem act_eq (y : EReal) :
    act y = Ideal.div y (1 + Ideal.exp (-(min (Ideal.ofBits .f32 0x42700000#32) (max (Ideal.ofBits .f32 0xC2700000#32) y)))) :=
  Ideal.mul_one_div (one_add_exp_ne_zero _)

/-! ## The product -/

/-- A sum over the 4096 contracted places is a sum over sixteen blocks of 256. -/
theorem sum_blocks (f : Fin 4096 → EReal) :
    ∑ k, f k = ∑ d : Fin 16, ∑ j : Fin 256, f ⟨256 * d.val + j.val, by omega⟩ := by
  rw [← Fintype.sum_prod_type', ← (finProdFinEquiv : Fin 16 × Fin 256 ≃ Fin (16 * 256)).sum_comp f]
  exact Finset.sum_congr rfl fun p _ => congrArg f (Fin.ext (Nat.add_comm _ _))

theorem real_ext (b : BitVec 8) : real (b.signExtend 32) = real b := by
  unfold real
  rw [BitVec.toInt_signExtend_of_le (by decide)]

variable (A : Vec Ideal S4096x4096 .i8) (B : Vec Ideal S4096x8192 .i8) (s t : Vec Ideal S1 .f32)

/-- The reference's product. -/
def dot : FVec Ideal S4096x8192 .f32 :=
  Host.dotGeneral dot_S4096x4096_S4096x8192_S4096x8192_1_0_0_1_n_n none (sitofp .f32 (extsi 32 A natLt_8_32))
    (sitofp .f32 (extsi 32 B natLt_8_32))

theorem dot_apply (i : S4096x8192.Idx) :
    dot A B i = ∑ k : Fin 4096, real (A (ix2 (i 0) k)) * real (B (ix2 k (i 1))) := by
  have e : dot A B i = Ideal.matmul dot_S4096x4096_S4096x8192_S4096x8192_1_0_0_1_n_n (fun a => real (A a)) (fun b => real (B b))
      (fun _ => 0) i := by
    show Ideal.matmul dot_S4096x4096_S4096x8192_S4096x8192_1_0_0_1_n_n (fun a => real ((A a).signExtend 32))
      (fun b => real ((B b).signExtend 32)) (fun _ => 0) i = _
    simp only [real_ext]
  rw [e]
  pointwise

/-- The reference's result. -/
def whole : FVec Ideal S4096x8192 .f32 :=
  Host.divf (mulf (dot A B) (broadcastInDim S4096x8192 ![0, 1] bcast_S1x1_S4096x8192_0_1 (broadcastInDim S1x1 ![1] bcast_S1_S1x1_1 (mulf s t))))
    (addf (broadcastInDim S4096x8192 ![] bcast_S_S4096x8192 (constant S_ .f32 0x3F800000#32)) (Host.exp (Host.negf
      (minimumf (broadcastInDim S4096x8192 ![] bcast_S_S4096x8192 (id (constant S_ .f32 0x42700000#32)))
        (maximumf (broadcastInDim S4096x8192 ![] bcast_S_S4096x8192 (id (constant S_ .f32 0xC2700000#32)))
          (mulf (dot A B) (broadcastInDim S4096x8192 ![0, 1] bcast_S1x1_S4096x8192_0_1 (broadcastInDim S1x1 ![1] bcast_S1_S1x1_1 (mulf s t)))))))))

theorem whole_apply (i : S4096x8192.Idx) : whole A B s t i = act (dot A B i * (s (ix1 0) * t (ix1 0))) := by
  rw [act_eq]
  unfold whole
  generalize dot A B = D
  simp only [id]
  pointwise

end Cert.ReferenceIdeal.Value

end
-- ==== Proof.Value.Equal.lean ====
/- The kernel's blocks, put together, are the reference's result. -/
module

public import proofs.«01_k».proof.Proof.Value.Reference
public import proofs.«01_k».proof.Proof.Ring.Steps
public import Idealize.ShloMosaic.Lib.LayoutAt

@[expose] public section

noncomputable section

namespace Cert.KernelIdeal.Ring

open Idealize.ShloMosaic Idealize.ShloMosaic.TcCoe
open Cert.ReferenceIdeal.Value (act dot dot_apply sum_blocks whole whole_apply)

/-- The last step on a quarter, at an index. -/
theorem finish_apply (p : FVec Ideal S256x2048 .f32) (v : FVec Ideal S1x256x2048 .bf16) (sc : EReal) (i : S256x2048.Idx) :
    finish (F := Ideal) p v sc i = act (accum p v i * sc) := by
  unfold finish activate scaled act
  generalize accum p v = a
  pointwise

variable (X : Dev nD → Vec Ideal S4096x256 .i8) (Wt : Dev nD → Vec Ideal S256x8192 .i8) (sc : Dev nD → EReal)

theorem joined_apply (c : Dev nD) (i : S256x8192.Idx) :
    joined (result (F := Ideal) X Wt sc c) i = act ((∑ d, term X Wt d c (quarterOf i) (inQuarter i)) * sc c) := by
  unfold joined result
  rw [finish_apply, accum_last]

variable (A : Vec Ideal ⟨2, ![4096, 4096]⟩ .i8) (B : Vec Ideal ⟨2, ![4096, 8192]⟩ .i8)

theorem rowIn_val (c : Dev nD) (i : S256x8192.Idx) : (rowIn c (inQuarter i 0)).val = 256 * c.val + (i 0).val := rfl

theorem colIn_val (i : S256x8192.Idx) : (colIn (quarterOf i) (inQuarter i 1)).val = (i 1).val := by
  show 2048 * ((i 1).val / 2048) + (i 1).val % 2048 = (i 1).val
  omega

/-- What a device adds is its share of the product of the whole matrices. -/
theorem term_eq (hX : ∀ d, X d = Layout.block ⟨2, ![4096, 256]⟩ ⟨2, ![4096, 4096]⟩ 1 16 d A)
    (hW : ∀ d, Wt d = Layout.block ⟨2, ![256, 8192]⟩ ⟨2, ![4096, 8192]⟩ 0 16 d B)
    (h : Layout.Tiles ⟨2, ![256, 8192]⟩ ⟨2, ![4096, 8192]⟩ 0 16) (c : Dev nD) (i : S256x8192.Idx) :
    ∑ d, term X Wt d c (quarterOf i) (inQuarter i) = dot A B (h.idx c i) := by
  rw [dot_apply, sum_blocks]
  refine Finset.sum_congr rfl fun d _ => Finset.sum_congr rfl fun j _ => ?_
  rw [hX, hW]
  refine congrArg₂ (fun a b => real a * real b) ?_ ?_
  · have e := rowIn_val c i
    shard_ext
  · have e := colIn_val i
    shard_ext

/-- A device's result is its block of the reference's. -/
theorem joined_eq (s t : Vec Ideal ⟨1, ![1]⟩ .f32) (hX : ∀ d, X d = Layout.block ⟨2, ![4096, 256]⟩ ⟨2, ![4096, 4096]⟩ 1 16 d A)
    (hW : ∀ d, Wt d = Layout.block ⟨2, ![256, 8192]⟩ ⟨2, ![4096, 8192]⟩ 0 16 d B) (hs : ∀ d, sc d = s (ix1 0) * t (ix1 0)) (c : Dev nD) :
    joined (result (F := Ideal) X Wt sc c) = Layout.block ⟨2, ![256, 8192]⟩ ⟨2, ![4096, 8192]⟩ 0 16 c (whole A B s t) := by
  funext i
  rw [joined_apply, Layout.block_apply, whole_apply, term_eq X Wt A B hX hW _ c i, hs]

end Cert.KernelIdeal.Ring

end
-- ==== Proof.Value.Algebraic.lean ====
/- The claim that the kernel computes the reference's function over the extended reals. -/
module

public import proofs.«01_k».proof.Defs
public import proofs.«01_k».proof.Proof.Value.Equal
public import proofs.«01_k».proof.Proof.Ring.Whole

@[expose] public section

noncomputable section

namespace Cert.KernelIdeal.Ring

open Idealize.ShloMosaic Idealize.ShloMosaic.TcCoe Idealize.SL.Sem Idealize.ShloMosaic.StableHlo
open Gen

variable (m : (ℓ : Loc nD τ sig) → Buf (Elt Ideal) ℓ) (c : Dev nD)

theorem opX_eq : opX m c = m ((c : Thread nD τ).loc main_arg0) := V₁_same m c (by decide) (by decide)
theorem opW_eq : opW m c = m ((c : Thread nD τ).loc main_arg1) := V₁_same m c (by decide) (by decide)

/-- The factor the launch is given is the product of the two scales, in another shape. -/
theorem opS_eq : opS m c = shapeCast S1x1 (mulf (F := Ideal) (φ := .f32) (m ((c : Thread nD τ).loc main_arg2) : Vec Ideal S1 .f32)
    (m ((c : Thread nD τ).loc main_arg3) : Vec Ideal S1 .f32)) shapeCasts_S1_S1x1 := by
  show V₁ m c (Proc.devRef .tc main_v2) = _
  simp only [V₁, hostOps0]
  after_results
  rfl

/-- The number a scale holds. -/
def sole (v : Vec Ideal S1 .f32) : EReal := v (ix1 0)

theorem sole_any (v : Vec Ideal S1 .f32) (a : S1.Idx) : v a = sole v :=
  congrArg v (funext fun | 0 => Subsingleton.elim (α := Fin 1) _ _)

theorem scOf_eq : scOf (opS m) c = sole (m ((c : Thread nD τ).loc main_arg2)) * sole (m ((c : Thread nD τ).loc main_arg3)) := by
  unfold scOf
  rw [opS_eq]
  exact sole_any (mulf (F := Ideal) (φ := .f32) (m ((c : Thread nD τ).loc main_arg2)) (m ((c : Thread nD τ).loc main_arg3))) _

end Cert.KernelIdeal.Ring

namespace Cert.Proof

open Idealize.ShloMosaic Idealize.SL.Sem

theorem algebraic : Cert.algebraic_KernelIdeal_ReferenceIdeal := fun m g m' g' _ h =>
  ⟨_, (θ_run Cert.KernelIdeal.defs _ _).mono
      (fun _ r c => ⟨((r.1 c).2).trans (KernelIdeal.Ring.joined_eq _ _ _ _ _ _ _
          (fun d => (KernelIdeal.Ring.opX_eq m d).trans (h d).1) (fun d => (KernelIdeal.Ring.opW_eq m d).trans (h d).2.1)
          (fun d => (KernelIdeal.Ring.scOf_eq m d).trans (congrArg₂ (fun v w => KernelIdeal.Ring.sole v * KernelIdeal.Ring.sole w) (h d).2.2.1 (h d).2.2.2)) c), (r.1 c).1⟩)
      (KernelIdeal.Ring.run_main (F := Ideal) m g),
    (θ_run Cert.ReferenceIdeal.defs _ _).mono (fun _ r => r 0) (Cert.ReferenceIdeal.Value.run (F := Ideal) m' g')⟩

end Cert.Proof

end
-- ==== Proof.lean ====
/- The claims of `Cert.Claim`, put together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Ring.Frames
public import proofs.«01_k».proof.Proof.Value.Algebraic

@[expose] public section

noncomputable section

namespace Cert.Proof

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
